-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_tokens [hPre_bounded_tokens : Cert.Pre_bounded_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_tokens [hPre_bounded_tokens : Cert.Pre_bounded_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_bounded_tokens [hKernelIdeal : Cert.KernelIdeal.Facts] [hPre_bounded_tokens : Cert.Pre_bounded_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_bounded_tokens [hReferenceIdeal : Cert.ReferenceIdeal.Facts] [hPre_bounded_tokens : Cert.Pre_bounded_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_bounded_tokens [hKernelIdeal : Cert.KernelIdeal.Facts] [hReferenceIdeal : Cert.ReferenceIdeal.Facts] [hPre_bounded_tokens : Cert.Pre_bounded_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v69)) (v3 : (c : Dev Cert.KernelIdeal.nD) → Buf (Elt Ideal) ((c.tc : Thread Cert.KernelIdeal.nD Cert.KernelIdeal.τ).loc Cert.KernelIdeal.main_v70)) (v4 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v69) = v2 c
          ∧ r.2.mem ((c.tc : Thread Cert.KernelIdeal.nD Cert.KernelIdeal.τ).loc Cert.KernelIdeal.main_v70) = v3 c
          ∧ r.2.mem ((c.tc : Thread Cert.KernelIdeal.nD Cert.KernelIdeal.τ).loc Cert.KernelIdeal.main_v71) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_values) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_bounded_tokens : Cert.Pre_bounded_tokens.Facts),
    quiescent_Kernel (hKernel := hKernel)
    ∧ quiescent_KernelIdeal (hKernelIdeal := hKernelIdeal)
    ∧ quiescent_KernelIdeal_pre_bounded_tokens (hKernelIdeal := hKernelIdeal) (hPre_bounded_tokens := hPre_bounded_tokens)
    ∧ quiescent_ReferenceIdeal (hReferenceIdeal := hReferenceIdeal)
    ∧ quiescent_ReferenceIdeal_pre_bounded_tokens (hReferenceIdeal := hReferenceIdeal) (hPre_bounded_tokens := hPre_bounded_tokens)
    ∧ preserves_Kernel_KernelIdeal
    ∧ algebraic_KernelIdeal_ReferenceIdeal_pre_bounded_tokens (hKernelIdeal := hKernelIdeal) (hReferenceIdeal := hReferenceIdeal) (hPre_bounded_tokens := hPre_bounded_tokens)
-- ==== Pre_bounded_tokens.lean ====
abbrev S_ : Shape := ⟨0, ![]⟩
abbrev S64x40x768 : Shape := ⟨3, ![64, 40, 768]⟩
abbrev S64x40 : Shape := ⟨2, ![64, 40]⟩
abbrev S64x1025x768 : Shape := ⟨3, ![64, 1025, 768]⟩
abbrev S64x1025 : Shape := ⟨2, ![64, 1025]⟩
abbrev S1 : Shape := ⟨1, ![1]⟩
abbrev S64x1024 : Shape := ⟨2, ![64, 1024]⟩
abbrev S768 : Shape := ⟨1, ![768]⟩
abbrev S768x768 : Shape := ⟨2, ![768, 768]⟩
abbrev S768x384 : Shape := ⟨2, ![768, 384]⟩
abbrev S384 : Shape := ⟨1, ![384]⟩
abbrev S384x192 : Shape := ⟨2, ![384, 192]⟩
abbrev S192 : Shape := ⟨1, ![192]⟩
abbrev S192x2 : Shape := ⟨2, ![192, 2]⟩
abbrev S2 : Shape := ⟨1, ![2]⟩
abbrev S64x1024x768 : Shape := ⟨3, ![64, 1024, 768]⟩

class Facts : Prop where
  slices_S64x1025x768_S64x1024x768_0_1_0 : S64x1025x768.Slices ![0, 1, 0] S64x1024x768
  bcast_S_S64x1024x768 : S_.BroadcastsInDim S64x1024x768 (![] : Fin 0 → Fin S64x1024x768.rank)

variable [Facts]

def fn {F : FTy → Type} [FloatOps F] (main_arg0 : IVec S_ 32) (main_arg1 : FVec F S64x40x768 .f32) (main_arg2 : IVec S64x40 32) (main_arg3 : FVec F S64x1025x768 .f32) (main_arg4 : IVec S64x1025 32) (main_arg5 : FVec F S1 .f32) (main_arg6 : FVec F S64x1024 .f32) (main_arg7 : FVec F S768 .f32) (main_arg8 : FVec F S768 .f32) (main_arg9 : FVec F S768x768 .f32) (main_arg10 : FVec F S768 .f32) (main_arg11 : FVec F S768x384 .f32) (main_arg12 : FVec F S384 .f32) (main_arg13 : FVec F S384x192 .f32) (main_arg14 : FVec F S192 .f32) (main_arg15 : FVec F S192x2 .f32) (main_arg16 : FVec F S2 .f32) : IVec S64x1024x768 1 :=
  let main_v0 : FVec F S64x1024x768 .f32 := (extractStridedSlice S64x1024x768 ![0, 1, 0] · slices_S64x1025x768_S64x1024x768_0_1_0) main_arg3
  let main_cst : FVec F S_ .f32 := constant S_ .f32 0x7F800000#32
  let main_v1 : FVec F S64x1024x768 .f32 := broadcastInDim S64x1024x768 ![] bcast_S_S64x1024x768 main_cst
  let main_v2 : IVec S64x1024x768 1 := cmpf .olt main_v0 main_v1
  main_v2
-- ==== Kernel.lean ====
abbrev S_ : Shape := ⟨0, ![]⟩
abbrev S64x40x768 : Shape := ⟨3, ![64, 40, 768]⟩
abbrev S64x40 : Shape := ⟨2, ![64, 40]⟩
abbrev S64x1025x768 : Shape := ⟨3, ![64, 1025, 768]⟩
abbrev S64x1025 : Shape := ⟨2, ![64, 1025]⟩
abbrev S1 : Shape := ⟨1, ![1]⟩
abbrev S64x1024 : Shape := ⟨2, ![64, 1024]⟩
abbrev S768 : Shape := ⟨1, ![768]⟩
abbrev S768x768 : Shape := ⟨2, ![768, 768]⟩
abbrev S768x384 : Shape := ⟨2, ![768, 384]⟩
abbrev S384 : Shape := ⟨1, ![384]⟩
abbrev S384x192 : Shape := ⟨2, ![384, 192]⟩
abbrev S192 : Shape := ⟨1, ![192]⟩
abbrev S192x2 : Shape := ⟨2, ![192, 2]⟩
abbrev S2 : Shape := ⟨1, ![2]⟩
abbrev S64x1024x768 : Shape := ⟨3, ![64, 1024, 768]⟩
abbrev S64x1x768 : Shape := ⟨3, ![64, 1, 768]⟩
abbrev S64x1024x1 : Shape := ⟨3, ![64, 1024, 1]⟩
abbrev S1x1x768 : Shape := ⟨3, ![1, 1, 768]⟩
abbrev S64x1024x384 : Shape := ⟨3, ![64, 1024, 384]⟩
abbrev S1x1x384 : Shape := ⟨3, ![1, 1, 384]⟩
abbrev S64x1024x192 : Shape := ⟨3, ![64, 1024, 192]⟩
abbrev S1x1x192 : Shape := ⟨3, ![1, 1, 192]⟩
abbrev S64x1024x2 : Shape := ⟨3, ![64, 1024, 2]⟩
abbrev S1x1x2 : Shape := ⟨3, ![1, 1, 2]⟩
abbrev S64x1x1024 : Shape := ⟨3, ![64, 1, 1024]⟩
abbrev S64x513x768 : Shape := ⟨3, ![64, 513, 768]⟩
abbrev S64x1x512 : Shape := ⟨3, ![64, 1, 512]⟩
abbrev S1x1x1024 : Shape := ⟨3, ![1, 1, 1024]⟩
abbrev S1x1024x768 : Shape := ⟨3, ![1, 1024, 768]⟩
abbrev S1x513x768 : Shape := ⟨3, ![1, 513, 768]⟩
abbrev S1x1x512 : Shape := ⟨3, ![1, 1, 512]⟩
abbrev S1024 : Shape := ⟨1, ![1024]⟩
abbrev S1024x768 : Shape := ⟨2, ![1024, 768]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩
abbrev S1024x512 : Shape := ⟨2, ![1024, 512]⟩
abbrev S1024x1 : Shape := ⟨2, ![1024, 1]⟩
abbrev S512 : Shape := ⟨1, ![512]⟩
abbrev S512x768 : Shape := ⟨2, ![512, 768]⟩
abbrev S1x768 : Shape := ⟨2, ![1, 768]⟩
abbrev S513x768 : Shape := ⟨2, ![513, 768]⟩
abbrev S64x513 : Shape := ⟨2, ![64, 513]⟩
abbrev S64x512 : Shape := ⟨2, ![64, 512]⟩

abbrev nBuf : Space → Nat
  | .hbm => 117
  | .vmem => 12
  | .smem => 0
  | _ => 0

abbrev bufTy : (tb : Table) → Fin (tcTables nBuf tb) → BufTy
  | .hbm, ⟨0, _⟩ => ⟨S_, .i32⟩
  | .hbm, ⟨1, _⟩ => ⟨S64x40x768, .f32⟩
  | .hbm, ⟨2, _⟩ => ⟨S64x40, .i32⟩
  | .hbm, ⟨3, _⟩ => ⟨S64x1025x768, .f32⟩
  | .hbm, ⟨4, _⟩ => ⟨S64x1025, .i32⟩
  | .hbm, ⟨5, _⟩ => ⟨S1, .f32⟩
  | .hbm, ⟨6, _⟩ => ⟨S64x1024, .f32⟩
  | .hbm, ⟨7, _⟩ => ⟨S768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S768x384, .f32⟩
  | .hbm, ⟨12, _⟩ => ⟨S384, .f32⟩
  | .hbm, ⟨13, _⟩ => ⟨S384x192, .f32⟩
  | .hbm, ⟨14, _⟩ => ⟨S192, .f32⟩
  | .hbm, ⟨15, _⟩ => ⟨S192x2, .f32⟩
  | .hbm, ⟨16, _⟩ => ⟨S2, .f32⟩
  | .hbm, ⟨17, _⟩ => ⟨S64x1024x768, .f32⟩
  | .hbm, ⟨18, _⟩ => ⟨S64x1x768, .f32⟩
  | .hbm, ⟨19, _⟩ => ⟨S_, .f32⟩
  | .hbm, ⟨20, _⟩ => ⟨S64x1024, .f32⟩
  | .hbm, ⟨21, _⟩ => ⟨S64x1024x1, .f32⟩
  | .hbm, ⟨22, _⟩ => ⟨S_, .f32⟩
  | .hbm, ⟨23, _⟩ => ⟨S64x1024x1, .f32⟩
  | .hbm, ⟨24, _⟩ => ⟨S64x1024x1, .f32⟩
  | .hbm, ⟨25, _⟩ => ⟨S64x1024x768, .f32⟩
  | .hbm, ⟨26, _⟩ => ⟨S64x1024x768, .f32⟩
  | .hbm, ⟨27, _⟩ => ⟨S64x1024x768, .f32⟩
  | .hbm, ⟨28, _⟩ => ⟨S_, .f32⟩
  | .hbm, ⟨29, _⟩ => ⟨S64x1024, .f32⟩
  | .hbm, ⟨30, _⟩ => ⟨S64x1024x1, .f32⟩
  | .hbm, ⟨31, _⟩ => ⟨S_, .f32⟩
  | .hbm, ⟨32, _⟩ => ⟨S64x1024x1, .f32⟩
  | .hbm, ⟨33, _⟩ => ⟨S64x1024x1, .f32⟩
  | .hbm, ⟨34, _⟩ => ⟨S64x1024x768, .f32⟩
  | .hbm, ⟨35, _⟩ => ⟨S64x1024x768, .f32⟩
  | .hbm, ⟨36, _⟩ => ⟨S_, .f32⟩
  | .hbm, ⟨37, _⟩ => ⟨S64x1024x1, .f32⟩
  | .hbm, ⟨38, _⟩ => ⟨S64x1024x1, .f32⟩
  | .hbm, ⟨39, _⟩ => ⟨S64x1024x1, .f32⟩
  | .hbm, ⟨40, _⟩ => ⟨S64x1024x768, .f32⟩
  | .hbm, ⟨41, _⟩ => ⟨S64x1024x768, .f32⟩
  | .hbm, ⟨42, _⟩ => ⟨S1x1x768, .f32⟩
  | .hbm, ⟨43, _⟩ => ⟨S64x1024x768, .f32⟩
  | .hbm, ⟨44, _⟩ => ⟨S64x1024x768, .f32⟩
  | .hbm, ⟨45, _⟩ => ⟨S1x1x768, .f32⟩
  | .hbm, ⟨46, _⟩ => ⟨S64x1024x768, .f32⟩
  | .hbm, ⟨47, _⟩ => ⟨S64x1024x768, .f32⟩
  | .hbm, ⟨48, _⟩ => ⟨S64x1024x768, .f32⟩
  | .hbm, ⟨49, _⟩ => ⟨S1x1x768, .f32⟩
  | .hbm, ⟨50, _⟩ => ⟨S64x1024x768, .f32⟩
  | .hbm, ⟨51, _⟩ => ⟨S64x1024x768, .f32⟩
  | .hbm, ⟨52, _⟩ => ⟨S_, .f32⟩
  | .hbm, ⟨53, _⟩ => ⟨S64x1024x768, .f32⟩
  | .hbm, ⟨54, _⟩ => ⟨S64x1024x768, .f32⟩
  | .hbm, ⟨55, _⟩ => ⟨S64x1024x768, .f32⟩
  | .hbm, ⟨56, _⟩ => ⟨S_, .f32⟩
  | .hbm, ⟨57, _⟩ => ⟨S64x1024x768, .f32⟩
  | .hbm, ⟨58, _⟩ => ⟨S64x1024x768, .f32⟩
  | .hbm, ⟨59, _⟩ => ⟨S64x1024x768, .f32⟩
  | .hbm, ⟨60, _⟩ => ⟨S64x1024x768, .f32⟩
  | .hbm, ⟨61, _⟩ => ⟨S64x1024x384, .f32⟩
  | .hbm, ⟨62, _⟩ => ⟨S1x1x384, .f32⟩
  | .hbm, ⟨63, _⟩ => ⟨S64x1024x384, .f32⟩
  | .hbm, ⟨64, _⟩ => ⟨S64x1024x384, .f32⟩
  | .hbm, ⟨65, _⟩ => ⟨S_, .f32⟩
  | .hbm, ⟨66, _⟩ => ⟨S64x1024x384, .f32⟩
  | .hbm, ⟨67, _⟩ => ⟨S64x1024x384, .f32⟩
  | .hbm, ⟨68, _⟩ => ⟨S64x1024x384, .f32⟩
  | .hbm, ⟨69, _⟩ => ⟨S_, .f32⟩
  | .hbm, ⟨70, _⟩ => ⟨S64x1024x384, .f32⟩
  | .hbm, ⟨71, _⟩ => ⟨S64x1024x384, .f32⟩
  | .hbm, ⟨72, _⟩ => ⟨S64x1024x384, .f32⟩
  | .hbm, ⟨73, _⟩ => ⟨S64x1024x384, .f32⟩
  | .hbm, ⟨74, _⟩ => ⟨S64x1024x192, .f32⟩
  | .hbm, ⟨75, _⟩ => ⟨S1x1x192, .f32⟩
  | .hbm, ⟨76, _⟩ => ⟨S64x1024x192, .f32⟩
  | .hbm, ⟨77, _⟩ => ⟨S64x1024x192, .f32⟩
  | .hbm, ⟨78, _⟩ => ⟨S_, .f32⟩
  | .hbm, ⟨79, _⟩ => ⟨S64x1024x192, .f32⟩
  | .hbm, ⟨80, _⟩ => ⟨S64x1024x192, .f32⟩
  | .hbm, ⟨81, _⟩ => ⟨S64x1024x192, .f32⟩
  | .hbm, ⟨82, _⟩ => ⟨S_, .f32⟩
  | .hbm, ⟨83, _⟩ => ⟨S64x1024x192, .f32⟩
  | .hbm, ⟨84, _⟩ => ⟨S64x1024x192, .f32⟩
  | .hbm, ⟨85, _⟩ => ⟨S64x1024x192, .f32⟩
  | .hbm, ⟨86, _⟩ => ⟨S64x1024x192, .f32⟩
  | .hbm, ⟨87, _⟩ => ⟨S64x1024x2, .f32⟩
  | .hbm, ⟨88, _⟩ => ⟨S1x1x2, .f32⟩
  | .hbm, ⟨89, _⟩ => ⟨S64x1024x2, .f32⟩
  | .hbm, ⟨90, _⟩ => ⟨S64x1024x2, .f32⟩
  | .hbm, ⟨91, _⟩ => ⟨S_, .f32⟩
  | .hbm, ⟨92, _⟩ => ⟨S64x1024, .f32⟩
  | .hbm, ⟨93, _⟩ => ⟨S_, .f32⟩
  | .hbm, ⟨94, _⟩ => ⟨S64x1024, .f32⟩
  | .hbm, ⟨95, _⟩ => ⟨S64x1024, .f32⟩
  | .hbm, ⟨96, _⟩ => ⟨S64x1024x1, .f32⟩
  | .hbm, ⟨97, _⟩ => ⟨S64x1024x2, .f32⟩
  | .hbm, ⟨98, _⟩ => ⟨S64x1024x2, .f32⟩
  | .hbm, ⟨99, _⟩ => ⟨S64x1024x2, .f32⟩
  | .hbm, ⟨100, _⟩ => ⟨S_, .f32⟩
  | .hbm, ⟨101, _⟩ => ⟨S64x1024, .f32⟩
  | .hbm, ⟨102, _⟩ => ⟨S64x1024x1, .f32⟩
  | .hbm, ⟨103, _⟩ => ⟨S64x1024x1, .f32⟩
  | .hbm, ⟨104, _⟩ => ⟨S64x1024x2, .f32⟩
  | .hbm, ⟨105, _⟩ => ⟨S64x1024x2, .f32⟩
  | .hbm, ⟨106, _⟩ => ⟨S64x1024x1, .f32⟩
  | .hbm, ⟨107, _⟩ => ⟨S64x1024, .f32⟩
  | .hbm, ⟨108, _⟩ => ⟨S64x1x1024, .f32⟩
  | .hbm, ⟨109, _⟩ => ⟨S64x513x768, .f32⟩
  | .hbm, ⟨110, _⟩ => ⟨S64x1x512, .i32⟩
  | .hbm, ⟨111, _⟩ => ⟨S64x1x512, .f32⟩
  | .hbm, ⟨112, _⟩ => ⟨S_, .i32⟩
  | .hbm, ⟨113, _⟩ => ⟨S64x513, .i32⟩
  | .hbm, ⟨114, _⟩ => ⟨S64x512, .i32⟩
  | .hbm, ⟨115, _⟩ => ⟨S64x1024, .f32⟩
  | .hbm, ⟨116, _⟩ => ⟨S64x512, .f32⟩
  | .local _ .vmem, ⟨0, _⟩ => ⟨S1x1x1024, .f32⟩
  | .local _ .vmem, ⟨1, _⟩ => ⟨S1x1x1024, .f32⟩
  | .local _ .vmem, ⟨2, _⟩ => ⟨S1x1024x768, .f32⟩
  | .local _ .vmem, ⟨3, _⟩ => ⟨S1x1024x768, .f32⟩
  | .local _ .vmem, ⟨4, _⟩ => ⟨S1x1x768, .f32⟩
  | .local _ .vmem, ⟨5, _⟩ => ⟨S1x1x768, .f32⟩
  | .local _ .vmem, ⟨6, _⟩ => ⟨S1x513x768, .f32⟩
  | .local _ .vmem, ⟨7, _⟩ => ⟨S1x513x768, .f32⟩
  | .local _ .vmem, ⟨8, _⟩ => ⟨S1x1x512, .i32⟩
  | .local _ .vmem, ⟨9, _⟩ => ⟨S1x1x512, .i32⟩
  | .local _ .vmem, ⟨10, _⟩ => ⟨S1x1x512, .f32⟩
  | .local _ .vmem, ⟨11, _⟩ => ⟨S1x1x512, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call0_cst : Ref sig .tc := ⟨.hbm, 91, rfl⟩
abbrev main_call0_v0 : Ref sig .tc := ⟨.hbm, 92, rfl⟩
abbrev main_call0_cst_0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_cst_1 : Ref sig .tc := ⟨.hbm, 100, rfl⟩
abbrev main_call0_v7 : Ref sig .tc := ⟨.hbm, 101, rfl⟩
abbrev main_call0_v8 : Ref sig .tc := ⟨.hbm, 102, rfl⟩
abbrev main_call0_v9 : Ref sig .tc := ⟨.hbm, 103, rfl⟩
abbrev main_call0_v10 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67_0 : Ref sig .tc := ⟨.hbm, 109, rfl⟩
abbrev main_v67_1 : Ref sig .tc := ⟨.hbm, 110, rfl⟩
abbrev main_v67_2 : Ref sig .tc := ⟨.hbm, 111, rfl⟩
abbrev main_c : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x513x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S_ : Shape := ⟨0, ![]⟩
abbrev S64x40x768 : Shape := ⟨3, ![64, 40, 768]⟩
abbrev S64x40 : Shape := ⟨2, ![64, 40]⟩
abbrev S64x1025x768 : Shape := ⟨3, ![64, 1025, 768]⟩
abbrev S64x1025 : Shape := ⟨2, ![64, 1025]⟩
abbrev S1 : Shape := ⟨1, ![1]⟩
abbrev S64x1024 : Shape := ⟨2, ![64, 1024]⟩
abbrev S768 : Shape := ⟨1, ![768]⟩
abbrev S768x768 : Shape := ⟨2, ![768, 768]⟩
abbrev S768x384 : Shape := ⟨2, ![768, 384]⟩
abbrev S384 : Shape := ⟨1, ![384]⟩
abbrev S384x192 : Shape := ⟨2, ![384, 192]⟩
abbrev S192 : Shape := ⟨1, ![192]⟩
abbrev S192x2 : Shape := ⟨2, ![192, 2]⟩
abbrev S2 : Shape := ⟨1, ![2]⟩
abbrev S64x1024x768 : Shape := ⟨3, ![64, 1024, 768]⟩
abbrev S64x1x768 : Shape := ⟨3, ![64, 1, 768]⟩
abbrev S64x1024x1 : Shape := ⟨3, ![64, 1024, 1]⟩
abbrev S1x1x768 : Shape := ⟨3, ![1, 1, 768]⟩
abbrev S64x1024x384 : Shape := ⟨3, ![64, 1024, 384]⟩
abbrev S1x1x384 : Shape := ⟨3, ![1, 1, 384]⟩
abbrev S64x1024x192 : Shape := ⟨3, ![64, 1024, 192]⟩
abbrev S1x1x192 : Shape := ⟨3, ![1, 1, 192]⟩
abbrev S64x1024x2 : Shape := ⟨3, ![64, 1024, 2]⟩
abbrev S1x1x2 : Shape := ⟨3, ![1, 1, 2]⟩
abbrev S64x512 : Shape := ⟨2, ![64, 512]⟩
abbrev S64x512x1 : Shape := ⟨3, ![64, 512, 1]⟩
abbrev S1x1x1 : Shape := ⟨3, ![1, 1, 1]⟩
abbrev S64x512x768 : Shape := ⟨3, ![64, 512, 768]⟩
abbrev S64x513x768 : Shape := ⟨3, ![64, 513, 768]⟩
abbrev S64x513 : Shape := ⟨2, ![64, 513]⟩

abbrev nBuf : Space → Nat
  | .hbm => 136
  | .vmem => 0
  | .smem => 0
  | _ => 0

abbrev hbmTy0_0 (i : Nat) : BufTy := match i % 128 with
  | 0 => ⟨S_, .i32⟩
  | 1 => ⟨S64x40x768, .f32⟩
  | 2 => ⟨S64x40, .i32⟩
  | 3 => ⟨S64x1025x768, .f32⟩
  | 4 => ⟨S64x1025, .i32⟩
  | 5 => ⟨S1, .f32⟩
  | 6 => ⟨S64x1024, .f32⟩
  | 7 => ⟨S768, .f32⟩
  | 8 => ⟨S768, .f32⟩
  | 9 => ⟨S768x768, .f32⟩
  | 10 => ⟨S768, .f32⟩
  | 11 => ⟨S768x384, .f32⟩
  | 12 => ⟨S384, .f32⟩
  | 13 => ⟨S384x192, .f32⟩
  | 14 => ⟨S192, .f32⟩
  | 15 => ⟨S192x2, .f32⟩
  | 16 => ⟨S2, .f32⟩
  | 17 => ⟨S64x1024x768, .f32⟩
  | 18 => ⟨S64x1x768, .f32⟩
  | 19 => ⟨S_, .f32⟩
  | 20 => ⟨S64x1024, .f32⟩
  | 21 => ⟨S64x1024x1, .f32⟩
  | 22 => ⟨S_, .f32⟩
  | 23 => ⟨S64x1024x1, .f32⟩
  | 24 => ⟨S64x1024x1, .f32⟩
  | 25 => ⟨S64x1024x768, .f32⟩
  | 26 => ⟨S64x1024x768, .f32⟩
  | 27 => ⟨S64x1024x768, .f32⟩
  | 28 => ⟨S_, .f32⟩
  | 29 => ⟨S64x1024, .f32⟩
  | 30 => ⟨S64x1024x1, .f32⟩
  | 31 => ⟨S_, .f32⟩
  | 32 => ⟨S64x1024x1, .f32⟩
  | 33 => ⟨S64x1024x1, .f32⟩
  | 34 => ⟨S64x1024x768, .f32⟩
  | 35 => ⟨S64x1024x768, .f32⟩
  | 36 => ⟨S_, .f32⟩
  | 37 => ⟨S64x1024x1, .f32⟩
  | 38 => ⟨S64x1024x1, .f32⟩
  | 39 => ⟨S64x1024x1, .f32⟩
  | 40 => ⟨S64x1024x768, .f32⟩
  | 41 => ⟨S64x1024x768, .f32⟩
  | 42 => ⟨S1x1x768, .f32⟩
  | 43 => ⟨S64x1024x768, .f32⟩
  | 44 => ⟨S64x1024x768, .f32⟩
  | 45 => ⟨S1x1x768, .f32⟩
  | 46 => ⟨S64x1024x768, .f32⟩
  | 47 => ⟨S64x1024x768, .f32⟩
  | 48 => ⟨S64x1024x768, .f32⟩
  | 49 => ⟨S1x1x768, .f32⟩
  | 50 => ⟨S64x1024x768, .f32⟩
  | 51 => ⟨S64x1024x768, .f32⟩
  | 52 => ⟨S_, .f32⟩
  | 53 => ⟨S64x1024x768, .f32⟩
  | 54 => ⟨S64x1024x768, .f32⟩
  | 55 => ⟨S64x1024x768, .f32⟩
  | 56 => ⟨S_, .f32⟩
  | 57 => ⟨S64x1024x768, .f32⟩
  | 58 => ⟨S64x1024x768, .f32⟩
  | 59 => ⟨S64x1024x768, .f32⟩
  | 60 => ⟨S64x1024x768, .f32⟩
  | 61 => ⟨S64x1024x384, .f32⟩
  | 62 => ⟨S1x1x384, .f32⟩
  | 63 => ⟨S64x1024x384, .f32⟩
  | 64 => ⟨S64x1024x384, .f32⟩
  | 65 => ⟨S_, .f32⟩
  | 66 => ⟨S64x1024x384, .f32⟩
  | 67 => ⟨S64x1024x384, .f32⟩
  | 68 => ⟨S64x1024x384, .f32⟩
  | 69 => ⟨S_, .f32⟩
  | 70 => ⟨S64x1024x384, .f32⟩
  | 71 => ⟨S64x1024x384, .f32⟩
  | 72 => ⟨S64x1024x384, .f32⟩
  | 73 => ⟨S64x1024x384, .f32⟩
  | 74 => ⟨S64x1024x192, .f32⟩
  | 75 => ⟨S1x1x192, .f32⟩
  | 76 => ⟨S64x1024x192, .f32⟩
  | 77 => ⟨S64x1024x192, .f32⟩
  | 78 => ⟨S_, .f32⟩
  | 79 => ⟨S64x1024x192, .f32⟩
  | 80 => ⟨S64x1024x192, .f32⟩
  | 81 => ⟨S64x1024x192, .f32⟩
  | 82 => ⟨S_, .f32⟩
  | 83 => ⟨S64x1024x192, .f32⟩
  | 84 => ⟨S64x1024x192, .f32⟩
  | 85 => ⟨S64x1024x192, .f32⟩
  | 86 => ⟨S64x1024x192, .f32⟩
  | 87 => ⟨S64x1024x2, .f32⟩
  | 88 => ⟨S1x1x2, .f32⟩
  | 89 => ⟨S64x1024x2, .f32⟩
  | 90 => ⟨S64x1024x2, .f32⟩
  | 91 => ⟨S_, .f32⟩
  | 92 => ⟨S64x1024, .f32⟩
  | 93 => ⟨S_, .f32⟩
  | 94 => ⟨S64x1024, .f32⟩
  | 95 => ⟨S64x1024, .f32⟩
  | 96 => ⟨S64x1024x1, .f32⟩
  | 97 => ⟨S64x1024x2, .f32⟩
  | 98 => ⟨S64x1024x2, .f32⟩
  | 99 => ⟨S64x1024x2, .f32⟩
  | 100 => ⟨S_, .f32⟩
  | 101 => ⟨S64x1024, .f32⟩
  | 102 => ⟨S64x1024x1, .f32⟩
  | 103 => ⟨S64x1024x1, .f32⟩
  | 104 => ⟨S64x1024x2, .f32⟩
  | 105 => ⟨S64x1024x2, .f32⟩
  | 106 => ⟨S64x1024x1, .f32⟩
  | 107 => ⟨S64x1024, .f32⟩
  | 108 => ⟨S64x512, .f32⟩
  | 109 => ⟨S64x512, .i32⟩
  | 110 => ⟨S64x512x1, .i32⟩
  | 111 => ⟨S_, .i32⟩
  | 112 => ⟨S64x512x1, .i32⟩
  | 113 => ⟨S64x512x1, .i1⟩
  | 114 => ⟨S_, .i32⟩
  | 115 => ⟨S64x512x1, .i32⟩
  | 116 => ⟨S64x512x1, .i32⟩
  | 117 => ⟨S64x512x1, .i32⟩
  | 118 => ⟨S1, .i32⟩
  | 119 => ⟨S_, .i32⟩
  | 120 => ⟨S64x512x1, .i32⟩
  | 121 => ⟨S64x512x1, .i1⟩
  | 122 => ⟨S1x1x1, .i32⟩
  | 123 => ⟨S64x512x1, .i32⟩
  | 124 => ⟨S64x512x1, .i1⟩
  | 125 => ⟨S64x512x1, .i1⟩
  | 126 => ⟨S_, .i1⟩
  | 127 => ⟨S64x512, .i1⟩
  | _ => ⟨S_, .i32⟩

abbrev hbmTy0_1 (i : Nat) : BufTy := match i % 128 with
  | 0 => ⟨S64x512x768, .f32⟩
  | 1 => ⟨S64x512x768, .i1⟩
  | 2 => ⟨S_, .f32⟩
  | 3 => ⟨S64x512x768, .f32⟩
  | 4 => ⟨S64x512x768, .f32⟩
  | 5 => ⟨S64x513x768, .f32⟩
  | 6 => ⟨S_, .i32⟩
  | 7 => ⟨S64x513, .i32⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call0_cst : Ref sig .tc := ⟨.hbm, 91, rfl⟩
abbrev main_call0_v0 : Ref sig .tc := ⟨.hbm, 92, rfl⟩
abbrev main_call0_cst_0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_cst_1 : Ref sig .tc := ⟨.hbm, 100, rfl⟩
abbrev main_call0_v7 : Ref sig .tc := ⟨.hbm, 101, rfl⟩
abbrev main_call0_v8 : Ref sig .tc := ⟨.hbm, 102, rfl⟩
abbrev main_call0_v9 : Ref sig .tc := ⟨.hbm, 103, rfl⟩
abbrev main_call0_v10 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_values : Ref sig .tc := ⟨.hbm, 108, rfl⟩
abbrev main_indices : Ref sig .tc := ⟨.hbm, 109, rfl⟩
abbrev main_v66 : Ref sig .tc := ⟨.hbm, 110, rfl⟩
abbrev main_call1_c : Ref sig .tc := ⟨.hbm, 111, rfl⟩
abbrev main_call1_v0 : Ref sig .tc := ⟨.hbm, 112, rfl⟩
abbrev main_call1_v1 : Ref sig .tc := ⟨.hbm, 113, rfl⟩
abbrev main_call1_c_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_c_1 : Ref sig .tc := ⟨.hbm, 118, rfl⟩
abbrev main_call1_c_2 : Ref sig .tc := ⟨.hbm, 119, rfl⟩
abbrev main_call1_v5 : Ref sig .tc := ⟨.hbm, 120, rfl⟩
abbrev main_call1_v6 : Ref sig .tc := ⟨.hbm, 121, rfl⟩
abbrev main_call1_v7 : Ref sig .tc := ⟨.hbm, 122, rfl⟩
abbrev main_call1_v8 : Ref sig .tc := ⟨.hbm, 123, rfl⟩
abbrev main_call1_v9 : Ref sig .tc := ⟨.hbm, 124, rfl⟩
abbrev main_call1_v10 : Ref sig .tc := ⟨.hbm, 125, rfl⟩
abbrev main_call1_c_3 : Ref sig .tc := ⟨.hbm, 126, rfl⟩
abbrev main_call1_v11 : Ref sig .tc := ⟨.hbm, 127, rfl⟩
abbrev main_call1_v12 : Ref sig .tc := ⟨.hbm, 128, rfl⟩
abbrev main_call1_v13 : Ref sig .tc := ⟨.hbm, 129, rfl⟩
abbrev main_call1_cst : Ref sig .tc := ⟨.hbm, 130, rfl⟩
abbrev main_call1_v14 : Ref sig .tc := ⟨.hbm, 131, rfl⟩
abbrev main_v67 : Ref sig .tc := ⟨.hbm, 132, rfl⟩
abbrev main_v68 : Ref sig .tc := ⟨.hbm, 133, rfl⟩
abbrev main_c : Ref sig .tc := ⟨.hbm, 134, rfl⟩
abbrev main_v69 : Ref sig .tc := ⟨.hbm, 135, rfl⟩

abbrev nD : Nat := 1
abbrev τ : Topo := Topo.v7x

variable {F : FTy → Type} [FloatOps F]
-- ==== Proof.Rank.lean ====
/-
  Ranks in a descending, stable order.

  `beats s j i` says that entry `j` comes before entry `i` when the entries of `s` are listed from the largest to the
  smallest, equal entries by position. The number of entries that beat `i` is `i`'s rank; a stable descending sort
  puts at place `p` the one entry of rank `p`.
-/
module

public import Idealize.ShloMosaic.Lib.SortFacts
public import Idealize.ShloMosaic.PureOps

@[expose] public section

noncomputable section

namespace Cert.Rank

open Idealize.ShloMosaic

variable {α : Type} [LinearOrder α] {n : ℕ} (s : Fin n → α)

/-- Entry `j` precedes entry `i`: it is larger, or equal and earlier. -/
def beats (j i : Fin n) : Prop := s i < s j ∨ (s j = s i ∧ j < i)

instance (j i : Fin n) : Decidable (beats s j i) := Classical.propDecidable _

theorem beats_irrefl (i : Fin n) : ¬ beats s i i := by
  rintro (h | ⟨_, h⟩) <;> exact lt_irrefl _ h

theorem beats_trans {a b c : Fin n} (h : beats s a b) (h' : beats s b c) : beats s a c := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

theorem beats_asymm {a b : Fin n} (h : beats s a b) : ¬ beats s b a :=
  fun h' => beats_irrefl s a (beats_trans s h h')

/-- How many entries precede entry `i`. -/
def rank (i : Fin n) : ℕ := (Finset.univ.filter fun j => beats s j i).card

/-- The sort's comparator: strictly larger first. -/
def larger (j i : Fin n) : Bool := decide (s i < s j)

/-- Inserting an entry before later ones keeps a list in the order of `beats`. -/
theorem pairwise_insertBefore (a : Fin n) (l : List (Fin n)) (hl : l.Pairwise (beats s)) (ha : ∀ b ∈ l, a < b) :
    (insertBefore (larger s) a l).Pairwise (beats s) := by
  induction l with
  | nil => exact List.pairwise_singleton _ _
  | cons b l ih =>
    rw [List.pairwise_cons] at hl
    unfold insertBefore
    split
    · rename_i hb
      have hb' : s a < s b := by simpa [larger] using hb
      refine List.pairwise_cons.mpr ⟨fun c hc => ?_, ih hl.2 fun c hc => ha c (List.mem_cons_of_mem b hc)⟩
      rcases List.mem_cons.mp ((perm_insertBefore _ a l).mem_iff.mp hc) with rfl | hc
      · exact .inl hb'
      · exact hl.1 c hc
    · rename_i hb
      have hb' : s b ≤ s a := by simpa [larger] using hb
      have hab : beats s a b := by
        rcases hb'.lt_or_eq with h | h
        · exact .inl h
        · exact .inr ⟨h.symm, ha b List.mem_cons_self⟩
      refine List.pairwise_cons.mpr ⟨fun c hc => ?_, List.pairwise_cons.mpr hl⟩
      rcases List.mem_cons.mp hc with rfl | hc
      · exact hab
      · exact beats_trans s hab (hl.1 c hc)

/-- The stable sort of an increasing list of positions is in the order of `beats`. -/
theorem pairwise_stableSort (l : List (Fin n)) (hl : l.Pairwise (· < ·)) :
    (stableSort (larger s) l).Pairwise (beats s) := by
  induction l with
  | nil => exact List.Pairwise.nil
  | cons a l ih =>
    rw [List.pairwise_cons] at hl
    unfold stableSort
    exact pairwise_insertBefore s a _ (ih hl.2) fun b hb => hl.1 b ((perm_stableSort _ l).mem_iff.mp hb)

/-- The entry the stable descending sort puts at place `p`. -/
def top (p : Fin n) : Fin n := sortedFrom (larger s) p

/-- An earlier place holds an entry that precedes a later place's. -/
theorem beats_top {p q : Fin n} (h : p < q) : beats s (top s p) (top s q) := by
  have hp := List.pairwise_iff_get.mp (pairwise_stableSort s (List.finRange n) (List.pairwise_lt_finRange n))
  exact hp (p.cast (length_sortPositions n _).symm) (q.cast (length_sortPositions n _).symm) h

theorem beats_top_iff {p q : Fin n} : beats s (top s p) (top s q) ↔ p < q := by
  refine ⟨fun h => ?_, beats_top s⟩
  rcases lt_trichotomy p q with h' | h' | h'
  · exact h'
  · subst h'; exact absurd h (beats_irrefl s _)
  · exact absurd h (beats_asymm s (beats_top s h'))

/-- The entry at place `p` has rank `p`. -/
theorem rank_top (p : Fin n) : rank s (top s p) = p := by
  have hb : Function.Bijective (top s) := ⟨sortedFrom_injective _, sortedFrom_surjective _⟩
  unfold rank
  rw [← Fin.card_Iio p]
  symm
  refine Finset.card_bij (fun q _ => top s q) (fun q hq => ?_) (fun q _ q' _ h => hb.1 h) (fun j hj => ?_)
  · exact Finset.mem_filter.mpr ⟨Finset.mem_univ _, beats_top s (Finset.mem_Iio.mp hq)⟩
  · obtain ⟨q, rfl⟩ := hb.2 j
    exact ⟨q, Finset.mem_Iio.mpr ((beats_top_iff s).mp (Finset.mem_filter.mp hj).2), rfl⟩

/-- The entry of rank `p` is the one at place `p`. -/
theorem rank_eq_iff (i p : Fin n) : rank s i = p ↔ i = top s p := by
  refine ⟨fun h => ?_, fun h => h ▸ rank_top s p⟩
  obtain ⟨q, rfl⟩ := sortedFrom_surjective (larger s) i
  have hq : q = p := Fin.ext ((rank_top s q).symm.trans h)
  rw [hq]; rfl

theorem rank_le (i : Fin n) : rank s i ≤ n := by
  unfold rank
  exact (Finset.card_le_univ _).trans (by simp)

/-- A sum that keeps only the entry of rank `p` is that entry's summand. -/
theorem sum_rank {β : Type} [AddCommMonoid β] (f : Fin n → β) (p : Fin n) :
    (∑ i, if rank s i = p then f i else 0) = f (top s p) := by
  rw [Finset.sum_congr rfl fun i _ => if_congr (rank_eq_iff s i p) rfl rfl]
  simp

end Cert.Rank

end

end
-- ==== Proof.Block.lean ====
/-
  What one image's block computes.

  The block holds one image's 1024 scores, its 1024 tokens and its class token. For each token it counts, in eight
  runs of 128 tokens, the tokens that precede it in the descending stable order of the scores; from the counts it
  makes a one-hot matrix that names the token of each rank below 512; with the matrix it picks the positions, the
  scores and the tokens of the 512 best. This module reads each of the three stored blocks at an index.
-/
module

public import proofs.«01_k».proof.Proof.Gen.KernelIdeal.Frame
public import Idealize.ShloMosaic.Lib.Pointwise
public import Idealize.ShloMosaic.Lib.Pipeline.Value
public import proofs.«01_k».proof.Proof.Rank
public import Mathlib.Data.BitVec

@[expose] public section

set_option maxRecDepth 16384

noncomputable section

namespace Cert.KernelIdeal.Block

open Idealize.ShloMosaic Cert.KernelIdeal Cert.KernelIdeal.Gen Cert.Rank

/-! ## Words -/

/-- A fold by addition of words is the sum of the words. -/
theorem fold_addi {ι : Type} (S : Finset ι) (f : ι → BitVec 32) : S.fold IntOp.addi 0#32 f = ∑ x ∈ S, f x := by
  classical
  induction S using Finset.induction_on with
  | empty => rfl
  | insert a S ha ih => rw [Finset.fold_insert ha, Finset.sum_insert ha, ih]; rfl

/-- The signed comparison of two small naturals held as words is the comparison of the naturals. -/
theorem slt_ofNat {a b : ℕ} (ha : a < 2048) (hb : b < 2048) :
    IntOp.cmpi .slt (BitVec.ofNat 32 a) (BitVec.ofNat 32 b) = BitVec.ofBool (decide (a < b)) := by
  show BitVec.ofBool ((BitVec.ofNat 32 a).slt (BitVec.ofNat 32 b)) = _
  have h : ∀ n : ℕ, n < 2048 → (BitVec.ofNat 32 n).toInt = n := fun n hn => by
    rw [BitVec.toInt_eq_toNat_of_lt] <;> rw [BitVec.toNat_ofNat, Nat.mod_eq_of_lt (by omega)]
    omega
  rw [BitVec.slt, h a ha, h b hb]
  simp

/-- The block's test of one pair of tokens, widened: one where token `k` precedes token `i`, which is token `r` of the
    run that begins at `o`. -/
theorem test_word (s : Fin 1024 → EReal) (i k : Fin 1024) (r : Fin 128) (o : ℕ) (hi : i.val = o + r.val) :
    BitVec.setWidth 32
        (IntOp.ori (BitVec.ofBool (decide (s i < s k)))
          (IntOp.andi (BitVec.ofBool (decide (s k = s i)))
            (IntOp.cmpi .slt (BitVec.ofNat 32 k.val) (IntOp.addi (BitVec.ofNat 32 r.val) (BitVec.ofNat 32 o)))))
      = if beats s k i then 1#32 else 0#32 := by
  have e : IntOp.addi (BitVec.ofNat 32 r.val) (BitVec.ofNat 32 o) = BitVec.ofNat 32 i.val := by
    show BitVec.ofNat 32 r.val + BitVec.ofNat 32 o = _
    rw [← BitVec.ofNat_add, hi, Nat.add_comm]
  rw [e, slt_ofNat (by omega) (by omega)]
  by_cases h1 : s i < s k <;> by_cases h2 : s k = s i <;> by_cases h3 : k < i <;>
    simp [beats, h1, h2, h3, IntOp.ori, IntOp.andi] <;> rfl

/-- The count a run's reduction leaves is the token's rank. -/
theorem count_word (s : Fin 1024 → EReal) (i : Fin 1024) :
    (∑ k, if beats s k i then 1#32 else 0#32) = BitVec.ofNat 32 (rank s i) := by
  have h : ∀ S : Finset (Fin 1024),
      (∑ k ∈ S, if beats s k i then 1#32 else 0#32) = BitVec.ofNat 32 (S.filter fun k => beats s k i).card := by
    intro S
    induction S using Finset.induction_on with
    | empty => rfl
    | insert a S ha ih =>
      rw [Finset.sum_insert ha, ih, Finset.filter_insert]
      split
      · rw [Finset.card_insert_of_notMem (fun h => ha (Finset.mem_filter.mp h).1), BitVec.ofNat_add, BitVec.add_comm]
      · exact BitVec.zero_add _
  exact h Finset.univ

/-- A run's reduction at token `r` of the run that begins at `o`. -/
theorem run_word (s : Fin 1024 → EReal) (i : Fin 1024) (r : Fin 128) (o : ℕ) (hi : i.val = o + r.val) :
    Finset.univ.fold IntOp.addi 0#32 (fun k : Fin 1024 => BitVec.setWidth 32
        (IntOp.ori (BitVec.ofBool (decide (s i < s k)))
          (IntOp.andi (BitVec.ofBool (decide (s k = s i)))
            (IntOp.cmpi .slt (BitVec.ofNat 32 k.val) (IntOp.addi (BitVec.ofNat 32 r.val) (BitVec.ofNat 32 o))))))
      = BitVec.ofNat 32 (rank s i) := by
  rw [fold_addi, Finset.sum_congr rfl fun k _ => test_word s i k r o hi, count_word]

/-! ## The counts -/

variable (x0 : Vec Ideal S1x1x1024 .f32) (x1 : Vec Ideal S1x1024x768 .f32) (x2 : Vec Ideal S1x1x768 .f32)

/-- The block's scores by token. -/
def score (k : Fin 1024) : EReal := x0 (ix3 0 0 k)

theorem hz3 : (![0, 0, 0] : Fin 3 → ℕ) = fun _ => 0 := by funext a; fin_cases a <;> rfl

theorem ld0 : View.ld x0 r0_0 = x0 := View.ld_unit_zero hz3 _ x0
theorem ld1 : View.ld x1 r0_1 = x1 := View.ld_unit_zero hz3 _ x1
theorem ld2 : View.ld x2 r0_3 = x2 := View.ld_unit_zero hz3 _ x2

/-- The rank of token `i` as a word. -/
def rankWord (i : Fin 1024) : BitVec 32 := BitVec.ofNat 32 (rank (score x0) i)

theorem run0 (r : Fin 128) :
    k0_pay24 x0 x1 x2 (ix1 r) = rankWord x0 ⟨r.val, by omega⟩ := by
  unfold k0_pay24
  rw [ld0]
  pointwise [k0_pay6, k0_pay5, k0_pay3]
  exact run_word (score x0) ⟨r.val, by omega⟩ r 0 (Nat.zero_add _).symm

theorem run1 (r : Fin 128) :
    k0_pay25 x0 x1 x2 (ix1 r) = rankWord x0 ⟨128 + r.val, by omega⟩ := by
  unfold k0_pay25
  rw [ld0]
  pointwise [k0_pay7, k0_pay5, k0_pay3]
  exact run_word (score x0) ⟨128 + r.val, by omega⟩ r 128 rfl

theorem run2 (r : Fin 128) :
    k0_pay26 x0 x1 x2 (ix1 r) = rankWord x0 ⟨256 + r.val, by omega⟩ := by
  unfold k0_pay26 k0_pay21
  rw [ld0]
  pointwise [k0_pay13, k0_pay12, k0_pay11, k0_pay10, k0_pay9, k0_pay8, k0_pay5, k0_pay3]
  exact run_word (score x0) ⟨256 + r.val, by omega⟩ r 256 rfl

theorem run3 (r : Fin 128) :
    k0_pay27 x0 x1 x2 (ix1 r) = rankWord x0 ⟨384 + r.val, by omega⟩ := by
  unfold k0_pay27 k0_pay23 k0_pay22 k0_pay21
  rw [ld0]
  pointwise [k0_pay14, k0_pay5, k0_pay3]
  exact run_word (score x0) ⟨384 + r.val, by omega⟩ r 384 rfl

theorem run4 (r : Fin 128) :
    k0_pay28 x0 x1 x2 (ix1 r) = rankWord x0 ⟨512 + r.val, by omega⟩ := by
  unfold k0_pay28 k0_pay23 k0_pay22 k0_pay21
  rw [ld0]
  pointwise [k0_pay15, k0_pay5, k0_pay3]
  exact run_word (score x0) ⟨512 + r.val, by omega⟩ r 512 rfl

/-! ## The one-hot matrix -/

/-- The comparison of the joined counts with a place, where each run's count of token `i` is the word `w`. -/
theorem compare_apply (v1 : FVec Ideal S1024 .f32) (v4 : FVec Ideal S1x1024 .f32) (v5 : IVec S128x1024 32)
    (c0 c1 c2 c3 c4 : IVec S128 32) (v100 : IVec S128x1024 32) (i : Fin 1024) (p : Fin 512) (w : BitVec 32)
    (h0 : ∀ r : Fin 128, i.val = 0 + r.val → c0 (ix1 r) = w)
    (h1 : ∀ r : Fin 128, i.val = 128 + r.val → c1 (ix1 r) = w)
    (h2 : ∀ r : Fin 128, i.val = 256 + r.val → c2 (ix1 r) = w)
    (h3 : ∀ r : Fin 128, i.val = 384 + r.val → c3 (ix1 r) = w)
    (h4 : ∀ r : Fin 128, i.val = 512 + r.val → c4 (ix1 r) = w)
    (h5 : ∀ r : Fin 128, i.val = 640 + r.val →
      Finset.univ.fold IntOp.addi 0#32 (fun k : Fin 1024 => v100 (ix2 r k)) = w)
    (h67 : ∀ (o : ℕ) (r : Fin 128) (ho : o = 768 ∨ o = 896) (hi : i.val = o + r.val),
      Finset.univ.fold IntOp.addi 0#32 (fun k : Fin 1024 => BitVec.setWidth 32
        (IntOp.ori (BitVec.ofBool (decide (v1 (ix1 ⟨o + r.val, by omega⟩) < v4 (ix2 0 k))))
          (IntOp.andi (BitVec.ofBool (decide (v4 (ix2 0 k) = v1 (ix1 ⟨o + r.val, by omega⟩))))
            (IntOp.cmpi .slt (v5 (ix2 r k)) (IntOp.addi (BitVec.ofNat 32 r.val) (BitVec.ofNat 32 o)))))) = w) :
    k0_pay17 v1 v4 v5 c0 c1 c2 c3 c4 v100 (ix2 i p) = IntOp.cmpi .eq w (BitVec.ofNat 32 p.val) := by
  pointwise [k0_pay17]
  refine congrArg (fun x => IntOp.cmpi .eq x (BitVec.ofNat 32 p.val)) ?_
  have hi := i.isLt
  split
  · exact h0 _ (by dsimp only; omega)
  split
  · exact h1 _ (by dsimp only; omega)
  split
  · exact h2 _ (by dsimp only; omega)
  split
  · exact h3 _ (by dsimp only; omega)
  split
  · exact h4 _ (by dsimp only; omega)
  split
  · exact h5 _ (by dsimp only; omega)
  split
  · exact h67 768 ⟨i.val - 128 - 128 - 128 - 128 - 128 - 128, by omega⟩ (.inl rfl) (by dsimp only; omega)
  · exact h67 896 ⟨i.val - 128 - 128 - 128 - 128 - 128 - 128 - 128, by omega⟩ (.inr rfl) (by dsimp only; omega)

/-- A rank and a place are equal as words exactly when they are equal. -/
theorem compare_rank (i : Fin 1024) (p : Fin 512) :
    IntOp.cmpi .eq (rankWord x0 i) (BitVec.ofNat 32 p.val) = if rank (score x0) i = p.val then 1#1 else 0#1 := by
  have hr := rank_le (score x0) i
  have hp := p.isLt
  have e : (rankWord x0 i = BitVec.ofNat 32 p.val) ↔ rank (score x0) i = p.val := by
    rw [rankWord, BitVec.toNat_eq, BitVec.toNat_ofNat, BitVec.toNat_ofNat, Nat.mod_eq_of_lt (by omega),
      Nat.mod_eq_of_lt (by omega)]
  show BitVec.ofBool (rankWord x0 i == BitVec.ofNat 32 p.val) = _
  by_cases h : rank (score x0) i = p.val
  · rw [if_pos h, beq_iff_eq.mpr (e.mpr h)]; rfl
  · rw [if_neg h, beq_eq_false_iff_ne.mpr fun h' => h (e.mp h')]; rfl

/-- The sixth run's pairs, added up. -/
theorem run5 (r : Fin 128) :
    Finset.univ.fold IntOp.addi 0#32 (fun k : Fin 1024 => k0_pay29 x0 x1 x2 (ix2 r k)) = rankWord x0 ⟨640 + r.val, by omega⟩ := by
  unfold k0_pay29 k0_pay23 k0_pay22 k0_pay21
  rw [ld0]
  pointwise [k0_pay16, k0_pay5, k0_pay3]
  exact run_word (score x0) ⟨640 + r.val, by omega⟩ r 640 rfl

/-- The last two runs' pairs, added up. -/
theorem run67 (o : ℕ) (r : Fin 128) (ho : o = 768 ∨ o = 896) :
    Finset.univ.fold IntOp.addi 0#32 (fun k : Fin 1024 => BitVec.setWidth 32
        (IntOp.ori (BitVec.ofBool (decide (k0_pay22 x0 x1 x2 (ix1 ⟨o + r.val, by omega⟩) < k0_pay23 x0 x1 x2 (ix2 0 k))))
          (IntOp.andi (BitVec.ofBool (decide (k0_pay23 x0 x1 x2 (ix2 0 k) = k0_pay22 x0 x1 x2 (ix1 ⟨o + r.val, by omega⟩))))
            (IntOp.cmpi .slt (k0_pay21 x0 x1 x2 (ix2 r k)) (IntOp.addi (BitVec.ofNat 32 r.val) (BitVec.ofNat 32 o))))))
      = rankWord x0 ⟨o + r.val, by omega⟩ := by
  unfold k0_pay23 k0_pay22 k0_pay21
  rw [ld0]
  pointwise [k0_pay5, k0_pay3]
  exact run_word (score x0) ⟨o + r.val, by omega⟩ r o rfl

/-- The matrix holds one at token `i` and place `p` exactly when `i` has rank `p`. -/
theorem mask_apply (i : Fin 1024) (p : Fin 512) :
    k0_pay30 x0 x1 x2 (ix2 i p) = if rank (score x0) i = p.val then 1#1 else 0#1 := by
  unfold k0_pay30
  rw [compare_apply _ _ _ _ _ _ _ _ _ i p (rankWord x0 i) (fun r h => (run0 x0 x1 x2 r).trans (congrArg _ (Fin.ext (h.trans (Nat.zero_add _)).symm))) (fun r h => (run1 x0 x1 x2 r).trans (congrArg _ (Fin.ext h.symm)))
    (fun r h => (run2 x0 x1 x2 r).trans (congrArg _ (Fin.ext h.symm))) (fun r h => (run3 x0 x1 x2 r).trans (congrArg _ (Fin.ext h.symm))) (fun r h => (run4 x0 x1 x2 r).trans (congrArg _ (Fin.ext h.symm))) (fun r h => (run5 x0 x1 x2 r).trans (congrArg _ (Fin.ext h.symm)))
    (fun o r ho h => (run67 x0 x1 x2 o r ho).trans (congrArg _ (Fin.ext h.symm))), compare_rank]

/-! ## The stored blocks -/

/-- The token at place `p` of the 512 best. -/
def best (s : Fin 1024 → EReal) (p : Fin 512) : Fin 1024 := top s ⟨p.val, by omega⟩

/-- A sum that keeps only the token named by column `p` of the matrix is that token's summand. -/
theorem sum_mask {β : Type} [AddCommMonoid β] (f : Fin 1024 → β) (p : Fin 512) :
    (∑ i, if rank (score x0) i = p.val then f i else 0) = f (best (score x0) p) :=
  sum_rank (score x0) f ⟨p.val, by omega⟩

theorem select_ite {α : Type} (P : Prop) [Decidable P] (a b : α) :
    Scalar.select (if P then 1#1 else 0#1) a b = if P then a else b := by
  by_cases h : P <;> simp [h, Scalar.select]

/-- The block of positions holds, at place `p`, the position of the token at that place. -/
theorem out4_apply (p : Fin 512) :
    out0_4 x0 x1 x2 (ix3 0 0 p) = BitVec.ofNat 32 (best (score x0) p).val := by
  unfold out0_4
  rw [View.canon_unit_zero hz3]
  pointwise [k0_pay18]
  rw [fold_addi, ← sum_mask x0 (fun i => BitVec.ofNat 32 i.val) p]
  refine Finset.sum_congr rfl fun i _ => ?_
  rw [← select_ite, ← mask_apply x0 x1 x2 i p]
  rfl

/-- The block of values holds, at place `p`, the score of the token at that place. -/
theorem out5_apply (p : Fin 512) :
    out0_5 x0 x1 x2 (ix3 0 0 p) = score x0 (best (score x0) p) := by
  unfold out0_5
  rw [View.canon_unit_zero hz3]
  pointwise [k0_pay1]
  rw [← sum_mask x0 (score x0) p]
  refine Finset.sum_congr rfl fun i _ => ?_
  rw [mask_apply x0 x1 x2 i p, select_ite]
  unfold k0_pay22
  rw [ld0]
  pointwise [k0_pay19, k0_pay20, k0_pay3, score]

/-- The matrix entry as a number. -/
theorem mask_real (i : Fin 1024) (p : Fin 512) (y : EReal) :
    (FloatOps.sitofp .f32 (BitVec.setWidth 32 (k0_pay30 x0 x1 x2 (ix2 i p))) : Ideal .f32) * y
      = if rank (score x0) i = p.val then y else 0 := by
  rw [mask_apply]
  by_cases h : rank (score x0) i = p.val
  · rw [if_pos h, if_pos h]
    show (((BitVec.setWidth 32 1#1).toInt : ℝ) : EReal) * y = y
    have : (BitVec.setWidth 32 1#1).toInt = 1 := by decide
    rw [this]; simp
  · rw [if_neg h, if_neg h]
    show (((BitVec.setWidth 32 0#1).toInt : ℝ) : EReal) * y = 0
    have : (BitVec.setWidth 32 0#1).toInt = 0 := by decide
    rw [this]; simp

/-- What a number leaves over of itself, added to it, changes it only at plus infinity: at minus infinity all three are
    minus infinity. -/
theorem add_sub_self {y : EReal} (h : y ≠ ⊤) : y + (y - y) = y := by
  by_cases hb : y = ⊥
  · rw [hb, EReal.bot_add]
  · rw [EReal.sub_self h hb, add_zero]

/-- The block of tokens holds the class token first. -/
theorem out3_first (d : Fin 768) : out0_3 x0 x1 x2 (ix3 0 0 d) = x2 (ix3 0 0 d) := by
  unfold out0_3
  rw [View.canon_unit_zero hz3, ld1, ld2]
  pointwise [k0_pay2]

/-- After the class token it holds, at place `p`, the token at that place: the two products add up to the token and
    what the rounding leaves over, which changes no token below plus infinity. -/
theorem out3_apply (hx : ∀ i d, x1 (ix3 0 i d) ≠ ⊤) (p : Fin 512) (d : Fin 768) :
    out0_3 x0 x1 x2 (ix3 0 ⟨p.val + 1, by omega⟩ d) = x1 (ix3 0 (best (score x0) p) d) := by
  unfold out0_3
  rw [View.canon_unit_zero hz3, ld1, ld2]
  pointwise [k0_pay2, k0_pay4]
  have hp : ∀ (h : p.val + 1 - 1 < 512), (⟨p.val + 1 - 1, h⟩ : Fin 512) = p := fun _ => Fin.ext (by simp)
  rw [dif_neg (by omega)]
  simp only [hp, mask_real]
  rw [sum_mask x0 (fun i => x1 (ix3 0 i d)) p, sum_mask x0 (fun i => x1 (ix3 0 i d) - x1 (ix3 0 i d)) p]
  exact add_sub_self (hx _ d)

end Cert.KernelIdeal.Block

end

end
-- ==== Proof.Arrays.lean ====
/-
  What the region's three result arrays hold.

  The grid has one point for each of the 64 images, and point `b` reads and writes block `b` of every array. So each
  result array is, image by image, what `Block.lean` reads of one block.
-/
module

public import proofs.«01_k».proof.Proof.Block

@[expose] public section

set_option maxRecDepth 16384

noncomputable section

namespace Cert.KernelIdeal.Arrays

open Idealize.ShloMosaic Idealize.ShloMosaic.Pipeline Cert.KernelIdeal Cert.KernelIdeal.Gen Cert.KernelIdeal.Block Cert.Rank

variable (m : (ℓ : Loc nD τ sig) → Buf (Elt Ideal) ℓ) (c : Dev nD)

/-- The scores the region reads. -/
abbrev scores : FVec Ideal S64x1x1024 .f32 := V m c main_v66
/-- The tokens the region reads. -/
abbrev tokens : FVec Ideal S64x1024x768 .f32 := V m c main_v0
/-- The class tokens the region reads. -/
abbrev classes : FVec Ideal S64x1x768 .f32 := V m c main_v1

/-- One image's scores. -/
def row (b : Fin 64) (k : Fin 1024) : EReal := scores m c (ix3 b 0 k)

/-- A grid point as an image. -/
def img (t : Fin cfg0.N) : Fin 64 := ⟨t.val, t.isLt⟩

/-! ## The blocks of the inputs -/

theorem index_facts : ∀ t : Fin cfg0.N, ∀ a : Fin 3,
    win0_0.index t a = (if a = 0 then t.val else 0) ∧ win0_1.index t a = (if a = 0 then t.val else 0)
    ∧ win0_2.index t a = (if a = 0 then t.val else 0) ∧ win0_3.index t a = (if a = 0 then t.val else 0)
    ∧ win0_4.index t a = (if a = 0 then t.val else 0) ∧ win0_5.index t a = (if a = 0 then t.val else 0) := by
  decide +kernel

theorem iblk0_apply (t : Fin cfg0.N) (k : Fin 1024) :
    (iblk m c 0 t : Vec Ideal S1x1x1024 .f32) (ix3 0 0 k) = scores m c (ix3 (img t) 0 k) := by
  show scores m c ((win0_0.rect t).emb (ix3 0 0 k)) = _
  refine congrArg _ (funext fun a => Fin.ext ?_)
  rw [Window.rect_emb_val win0_0 t _ a rfl, (index_facts t a).1]
  match a with
  | ⟨0, _⟩ => show t.val * 1 + 0 = t.val; omega
  | ⟨1, _⟩ => rfl
  | ⟨2, _⟩ => show 0 * 1024 + k.val = k.val; omega

theorem iblk1_apply (t : Fin cfg0.N) (i : Fin 1024) (d : Fin 768) :
    (iblk m c 1 t : Vec Ideal S1x1024x768 .f32) (ix3 0 i d) = tokens m c (ix3 (img t) i d) := by
  show tokens m c ((win0_1.rect t).emb (ix3 0 i d)) = _
  refine congrArg _ (funext fun a => Fin.ext ?_)
  rw [Window.rect_emb_val win0_1 t _ a rfl, (index_facts t a).2.1]
  match a with
  | ⟨0, _⟩ => show t.val * 1 + 0 = t.val; omega
  | ⟨1, _⟩ => show 0 * 1024 + i.val = i.val; omega
  | ⟨2, _⟩ => show 0 * 768 + d.val = d.val; omega

theorem iblk2_apply (t : Fin cfg0.N) (d : Fin 768) :
    (iblk m c 2 t : Vec Ideal S1x1x768 .f32) (ix3 0 0 d) = classes m c (ix3 (img t) 0 d) := by
  show classes m c ((win0_2.rect t).emb (ix3 0 0 d)) = _
  refine congrArg _ (funext fun a => Fin.ext ?_)
  rw [Window.rect_emb_val win0_2 t _ a rfl, (index_facts t a).2.2.1]
  match a with
  | ⟨0, _⟩ => show t.val * 1 + 0 = t.val; omega
  | ⟨1, _⟩ => rfl
  | ⟨2, _⟩ => show 0 * 768 + d.val = d.val; omega

/-- The scores of point `t`'s block are image `t`'s. -/
theorem score_iblk (t : Fin cfg0.N) : score (iblk m c 0 t) = row m c (img t) :=
  funext fun k => iblk0_apply m c t k

/-! ## The result arrays -/

/-- The array of new tokens: the class token, then the 512 best. -/
def newTokens : FVec Ideal S64x513x768 .f32 := fun j =>
  if h : (j 1).val < 1 then classes m c (ix3 (j 0) 0 (j 2))
  else tokens m c (ix3 (j 0) (best (row m c (j 0)) ⟨(j 1).val - 1, by have : (j 1).val < 513 := (j 1).isLt; omega⟩) (j 2))

/-- The array of positions of the 512 best. -/
def positions : IVec S64x1x512 32 := fun j => BitVec.ofNat 32 (best (row m c (j 0)) (j 2)).val

/-- The array of scores of the 512 best. -/
def values : FVec Ideal S64x1x512 .f32 := fun j => row m c (j 0) (best (row m c (j 0)) (j 2))

theorem newTokens_first (b : Fin 64) (d : Fin 768) : newTokens m c (ix3 b 0 d) = classes m c (ix3 b 0 d) := by
  unfold newTokens
  exact dif_pos Nat.zero_lt_one

theorem newTokens_next (b : Fin 64) (p : Fin 512) (d : Fin 768) :
    newTokens m c (ix3 b ⟨p.val + 1, by omega⟩ d) = tokens m c (ix3 b (best (row m c b) p) d) := by
  unfold newTokens
  exact dif_neg (Nat.not_lt.mpr (Nat.le_add_left 1 p.val))

/-- A row of the new tokens is the first or one of the 512 after it. -/
theorem row_cases (r : Fin 513) : r = 0 ∨ ∃ p : Fin 512, r = ⟨p.val + 1, by omega⟩ := by
  by_cases h : r.val < 1
  · exact .inl (Fin.ext (by simp only [Fin.val_zero]; omega))
  · exact .inr ⟨⟨r.val - 1, by omega⟩, Fin.ext (by dsimp only; omega)⟩

/-- No element of the tokens the region reads is plus infinity. -/
def Bounded : Prop := ∀ j, tokens m c j ≠ ⊤

theorem emb3 (t : Fin cfg0.N) (r : Fin 513) (d : Fin 768) :
    (win0_3.rect t).emb (ix3 0 r d) = (ix3 (img t) r d : S64x513x768.Idx) := by
  funext a; apply Fin.ext
  rw [Window.rect_emb_val win0_3 t _ a rfl, (index_facts t a).2.2.2.1]
  match a with
  | ⟨0, _⟩ => show t.val * 1 + 0 = t.val; omega
  | ⟨1, _⟩ => show 0 * 513 + r.val = r.val; omega
  | ⟨2, _⟩ => show 0 * 768 + d.val = d.val; omega

theorem emb4 (t : Fin cfg0.N) (p : Fin 512) :
    (win0_4.rect t).emb (ix3 0 0 p) = (ix3 (img t) 0 p : S64x1x512.Idx) := by
  funext a; apply Fin.ext
  rw [Window.rect_emb_val win0_4 t _ a rfl, (index_facts t a).2.2.2.2.1]
  match a with
  | ⟨0, _⟩ => show t.val * 1 + 0 = t.val; omega
  | ⟨1, _⟩ => rfl
  | ⟨2, _⟩ => show 0 * 512 + p.val = p.val; omega

theorem emb5 (t : Fin cfg0.N) (p : Fin 512) :
    (win0_5.rect t).emb (ix3 0 0 p) = (ix3 (img t) 0 p : S64x1x512.Idx) := by
  funext a; apply Fin.ext
  rw [Window.rect_emb_val win0_5 t _ a rfl, (index_facts t a).2.2.2.2.2]
  match a with
  | ⟨0, _⟩ => show t.val * 1 + 0 = t.val; omega
  | ⟨1, _⟩ => rfl
  | ⟨2, _⟩ => show 0 * 512 + p.val = p.val; omega

/-- The block of new tokens that point `t` writes back is block `t` of the array of new tokens. -/
theorem flushed3 (hf : Bounded m c) (t : Fin cfg0.N) :
    (dats m 0 c).flushed 3 t = ((cfg0.win 3).blk t).view.read (Elt Ideal) (newTokens m c) := by
  show (cfg0.win 3).cut (grid0.coords t) ((dats m 0 c).after 3 t) = _
  rw [after0_3]
  funext (j : S1x513x768.Idx)
  show out0_3 (iblk m c 0 t) (iblk m c 1 t) (iblk m c 2 t) j = newTokens m c ((win0_3.rect t).emb j)
  obtain ⟨z, r, d, rfl⟩ : ∃ (z : Fin 1) (r : Fin 513) (d : Fin 768), j = ix3 z r d := ⟨j 0, j 1, j 2, eq_ix3 j⟩
  obtain rfl : z = 0 := Subsingleton.elim _ _
  rw [emb3]
  rcases row_cases r with rfl | ⟨p, rfl⟩
  · rw [out3_first, iblk2_apply]
    exact (newTokens_first m c (img t) d).symm
  · have e := out3_apply (iblk m c 0 t) (iblk m c 1 t) (iblk m c 2 t)
      (fun i d => (iblk1_apply m c t i d).symm ▸ hf _) p d
    refine e.trans ((iblk1_apply m c t _ d).trans ?_)
    rw [score_iblk]
    exact (newTokens_next m c (img t) p d).symm

/-- The block of positions that point `t` writes back is block `t` of the array of positions. -/
theorem flushed4 (t : Fin cfg0.N) :
    (dats m 0 c).flushed 4 t = ((cfg0.win 4).blk t).view.read (Elt Ideal) (positions m c) := by
  show (cfg0.win 4).cut (grid0.coords t) ((dats m 0 c).after 4 t) = _
  rw [after0_4]
  funext (j : S1x1x512.Idx)
  show out0_4 (iblk m c 0 t) (iblk m c 1 t) (iblk m c 2 t) j = positions m c ((win0_4.rect t).emb j)
  obtain ⟨z, y, p, rfl⟩ : ∃ (z y : Fin 1) (p : Fin 512), j = ix3 z y p := ⟨j 0, j 1, j 2, eq_ix3 j⟩
  obtain rfl : z = 0 := Subsingleton.elim _ _
  obtain rfl : y = 0 := Subsingleton.elim _ _
  rw [emb4, out4_apply, score_iblk]
  rfl

/-- The block of scores that point `t` writes back is block `t` of the array of scores. -/
theorem flushed5 (t : Fin cfg0.N) :
    (dats m 0 c).flushed 5 t = ((cfg0.win 5).blk t).view.read (Elt Ideal) (values m c) := by
  show (cfg0.win 5).cut (grid0.coords t) ((dats m 0 c).after 5 t) = _
  rw [after0_5]
  funext (j : S1x1x512.Idx)
  show out0_5 (iblk m c 0 t) (iblk m c 1 t) (iblk m c 2 t) j = values m c ((win0_5.rect t).emb j)
  obtain ⟨z, y, p, rfl⟩ : ∃ (z y : Fin 1) (p : Fin 512), j = ix3 z y p := ⟨j 0, j 1, j 2, eq_ix3 j⟩
  obtain rfl : z = 0 := Subsingleton.elim _ _
  obtain rfl : y = 0 := Subsingleton.elim _ _
  rw [emb5, out5_apply, score_iblk]
  rfl

/-! ## The blocks tile the arrays -/

theorem cover3 (i : S64x513x768.Idx) :
    ∃ t : Fin cfg0.N, (cfg0.win 3).flush t = true ∧ i ∈ ((cfg0.win 3).blk t).view.set := by
  refine ⟨⟨(i 0).val, (i 0).isLt⟩, flush0_3 _, ?_⟩
  exact Finset.mem_map.mpr ⟨ix3 0 (i 1) (i 2), Finset.mem_univ _, (emb3 ⟨(i 0).val, (i 0).isLt⟩ (i 1) (i 2)).trans (eq_ix3 i).symm⟩

theorem cover4 (i : S64x1x512.Idx) :
    ∃ t : Fin cfg0.N, (cfg0.win 4).flush t = true ∧ i ∈ ((cfg0.win 4).blk t).view.set := by
  refine ⟨⟨(i 0).val, (i 0).isLt⟩, flush0_4 _, ?_⟩
  have hi : i = ix3 (i 0) 0 (i 2) := (eq_ix3 i).trans (congrArg (fun y : Fin 1 => ix3 (i 0) y (i 2)) (Subsingleton.elim _ _))
  exact Finset.mem_map.mpr ⟨ix3 0 0 (i 2), Finset.mem_univ _, (emb4 ⟨(i 0).val, (i 0).isLt⟩ (i 2)).trans hi.symm⟩

theorem cover5 (i : S64x1x512.Idx) :
    ∃ t : Fin cfg0.N, (cfg0.win 5).flush t = true ∧ i ∈ ((cfg0.win 5).blk t).view.set := by
  refine ⟨⟨(i 0).val, (i 0).isLt⟩, flush0_5 _, ?_⟩
  have hi : i = ix3 (i 0) 0 (i 2) := (eq_ix3 i).trans (congrArg (fun y : Fin 1 => ix3 (i 0) y (i 2)) (Subsingleton.elim _ _))
  exact Finset.mem_map.mpr ⟨ix3 0 0 (i 2), Finset.mem_univ _, (emb5 ⟨(i 0).val, (i 0).isLt⟩ (i 2)).trans hi.symm⟩

/-- The array of new tokens after the region. -/
theorem final3 (hf : Bounded m c) : (dats m 0 c).arrAt 3 cfg0.N = newTokens m c :=
  (dats m 0 c).arrAt_eq_of_cover 3 (newTokens m c) (fun t _ => flushed3 m c hf t) cover3

/-- The array of positions after the region. -/
theorem final4 : (dats m 0 c).arrAt 4 cfg0.N = positions m c :=
  (dats m 0 c).arrAt_eq_of_cover 4 (positions m c) (fun t _ => flushed4 m c t) cover4

/-- The array of scores of the best after the region. -/
theorem final5 : (dats m 0 c).arrAt 5 cfg0.N = values m c :=
  (dats m 0 c).arrAt_eq_of_cover 5 (values m c) (fun t _ => flushed5 m c t) cover5

end Cert.KernelIdeal.Arrays

end

end
-- ==== Proof.Entry.lean ====
/-
  What the host lines before the region leave: the scores, the tokens and the class tokens the region reads, each as
  the reference's own term of the same arguments.
-/
module

public import proofs.«01_k».proof.Proof.Gen.KernelIdeal.Frame
public import proofs.«01_k».proof.Proof.Gen.ReferenceIdeal.Run
public import Idealize.ShloMosaic.Lib.Pointwise

@[expose] public section

set_option maxRecDepth 16384

noncomputable section

namespace Cert.Entry

open Idealize.ShloMosaic Idealize.ShloMosaic.StableHlo Idealize.SL.Sem Cert.KernelIdeal.Gen Cert.ReferenceIdeal.Value

/-- The contents of one device's buffers, in the kernel's program. -/
abbrev KVal := Valuation Cert.KernelIdeal.τ Cert.KernelIdeal.sig (Elt Ideal)
/-- The contents of one device's buffers, in the reference's program. -/
abbrev RVal := Valuation Cert.ReferenceIdeal.τ Cert.ReferenceIdeal.sig (Elt Ideal)

/-- The two programs hold the same arguments, those that the scores read. -/
structure Same (V : KVal) (V' : RVal) : Prop where
  a3 : V (Proc.devRef .tc Cert.KernelIdeal.main_arg3) = V' (Proc.devRef .tc Cert.ReferenceIdeal.main_arg3)
  a7 : V (Proc.devRef .tc Cert.KernelIdeal.main_arg7) = V' (Proc.devRef .tc Cert.ReferenceIdeal.main_arg7)
  a8 : V (Proc.devRef .tc Cert.KernelIdeal.main_arg8) = V' (Proc.devRef .tc Cert.ReferenceIdeal.main_arg8)
  a9 : V (Proc.devRef .tc Cert.KernelIdeal.main_arg9) = V' (Proc.devRef .tc Cert.ReferenceIdeal.main_arg9)
  a10 : V (Proc.devRef .tc Cert.KernelIdeal.main_arg10) = V' (Proc.devRef .tc Cert.ReferenceIdeal.main_arg10)
  a11 : V (Proc.devRef .tc Cert.KernelIdeal.main_arg11) = V' (Proc.devRef .tc Cert.ReferenceIdeal.main_arg11)
  a12 : V (Proc.devRef .tc Cert.KernelIdeal.main_arg12) = V' (Proc.devRef .tc Cert.ReferenceIdeal.main_arg12)
  a13 : V (Proc.devRef .tc Cert.KernelIdeal.main_arg13) = V' (Proc.devRef .tc Cert.ReferenceIdeal.main_arg13)
  a14 : V (Proc.devRef .tc Cert.KernelIdeal.main_arg14) = V' (Proc.devRef .tc Cert.ReferenceIdeal.main_arg14)
  a15 : V (Proc.devRef .tc Cert.KernelIdeal.main_arg15) = V' (Proc.devRef .tc Cert.ReferenceIdeal.main_arg15)
  a16 : V (Proc.devRef .tc Cert.KernelIdeal.main_arg16) = V' (Proc.devRef .tc Cert.ReferenceIdeal.main_arg16)

variable {V : KVal} {V' : RVal} (h : Same V V')

/-- The tokens are all rows but the first of argument 3. -/
theorem tokens_eq : after (List.flatten [hostOps0 (F := Ideal), hostOps0_1, hostOps0_2]) V (Proc.devRef .tc Cert.KernelIdeal.main_v0)
    = extractStridedSlice Cert.KernelIdeal.S64x1024x768 ![0, 1, 0] (V (Proc.devRef .tc Cert.KernelIdeal.main_arg3))
      Cert.KernelIdeal.Facts₀.slices_S64x1025x768_S64x1024x768_0_1_0 := by
  simp only [List.flatten_cons, List.flatten_nil, after_append]
  simp only [hostOps0_1, hostOps0_2, hostOps0, TRef.binary, TRef.nullary, TRef.ternary, TRef.unary, TRef.toBuf, TRef.ofBuf, cast_eq]
  after_results_simp
  all_goals rfl

/-- The class tokens are the first row of argument 3. -/
theorem classes_eq : after (List.flatten [hostOps0 (F := Ideal), hostOps0_1, hostOps0_2]) V (Proc.devRef .tc Cert.KernelIdeal.main_v1)
    = extractStridedSlice Cert.KernelIdeal.S64x1x768 ![0, 0, 0] (V (Proc.devRef .tc Cert.KernelIdeal.main_arg3))
      Cert.KernelIdeal.Facts₀.slices_S64x1025x768_S64x1x768_0_0_0 := by
  simp only [List.flatten_cons, List.flatten_nil, after_append]
  simp only [hostOps0_1, hostOps0_2, hostOps0, TRef.binary, TRef.nullary, TRef.ternary, TRef.unary, TRef.toBuf, TRef.ofBuf, cast_eq]
  after_results_simp
  all_goals rfl

include h in
set_option maxHeartbeats 4000000 in
/-- The two-class scores before the softmax are the reference's. -/
theorem logits_eq : after (hostOps0 (F := Ideal)) V (Proc.devRef .tc Cert.KernelIdeal.main_v62) = res_main_v62 V' := by
  simp only [hostOps0]
  after_results_simp
  rw [h.a3, h.a7, h.a8, h.a9, h.a10, h.a11, h.a12, h.a13, h.a14, h.a15, h.a16]
  rfl

include h in
set_option maxHeartbeats 4000000 in
/-- The scores the region reads are the reference's scores, one image to a block. -/
theorem scores_eq : after (List.flatten [hostOps0 (F := Ideal), hostOps0_1, hostOps0_2]) V (Proc.devRef .tc Cert.KernelIdeal.main_v66)
    = shapeCast Cert.KernelIdeal.S64x1x1024 (res_main_v65 V' : FVec Ideal Cert.KernelIdeal.S64x1024 .f32)
      Cert.KernelIdeal.Facts₀.shapeCasts_S64x1024_S64x1x1024 := by
  simp only [List.flatten_cons, List.flatten_nil, after_append]
  simp only [hostOps0_1, hostOps0_2, TRef.binary, TRef.nullary, TRef.ternary, TRef.unary, TRef.toBuf, TRef.ofBuf, cast_eq]
  have e := logits_eq h
  generalize after (hostOps0 (F := Ideal)) V = W at e ⊢
  after_results_simp
  rw [e]
  rfl

end Cert.Entry

end

end
-- ==== Proof.Picked.lean ====
/-
  What the reference picks: the places of its top-k, and the gather of the tokens at those places.
-/
module

public import proofs.«01_k».proof.Proof.Gen.ReferenceIdeal.Run
public import Idealize.ShloMosaic.Lib.Pointwise
public import Idealize.ShloMosaic.Lib.Pipeline.Value
public import Idealize.ShloMosaic.Lib.WordArith
public import proofs.«01_k».proof.Proof.Rank

@[expose] public section

set_option maxRecDepth 16384

noncomputable section

namespace Cert.ReferenceIdeal.Picked

open Idealize.ShloMosaic Cert.ReferenceIdeal Cert.ReferenceIdeal.Gen Cert.Rank

/-! ## The top-k -/

section TopK

variable (x : FVec Ideal S64x1024 .f32)

/-- The token that the top-k puts at place `p` of image `b`. -/
def place (b : Fin 64) (p : Fin 512) : Fin 1024 := top (fun k => x (ix2 b k)) ⟨p.val, by omega⟩

/-- The comparator holds of two scores exactly when the first is the larger. -/
theorem greater_eq (u v : EReal) :
    (FloatOps.cmpfTotal (F := Ideal) (φ := .f32) .gt u v == 1#1) = decide (v < u) := by
  show (Ideal.cmpTotal .gt u v == 1#1) = _
  simp only [Ideal.cmpTotal, Ideal.cmp, CmpDirection.ordered]
  by_cases h : v < u <;> simp [h]

/-- The sort of one row puts `top` of that row at each place. -/
theorem sorted_eq (b : Fin 64) (q : Fin 1024) :
    sortedFrom (fun k k' : Fin 1024 => (FloatOps.cmpfTotal .gt (x (ix2 b k)) (x (ix2 b k')) : BitVec 1) == 1#1) q
      = top (fun k => x (ix2 b k)) q := by
  unfold top
  refine congrArg (fun f => sortedFrom f q) (funext fun k => funext fun k' => ?_)
  exact greater_eq _ _

theorem along_eq (b : Fin 64) (q k : Fin 1024) : Shape.Idx.along (s := S64x1024) (ix2 b q) 1 k = ix2 b k := by
  funext a
  match a with
  | ⟨0, _⟩ => rfl
  | ⟨1, _⟩ => rfl

/-- The sort of the scores with any second array moves that array's entries to the same places. -/
theorem sort_apply {β : Type} (y : S64x1024.Idx → β) (b : Fin 64) (q : Fin 1024) :
    (Host.sort2 S64x1024 1 (fun l r => FloatOps.cmpfTotal (F := Ideal) .gt l.1 r.1) x y).1 (ix2 b q)
        = x (ix2 b (top (fun k => x (ix2 b k)) q))
    ∧ (Host.sort2 S64x1024 1 (fun l r => FloatOps.cmpfTotal (F := Ideal) .gt l.1 r.1) x y).2 (ix2 b q)
        = y (ix2 b (top (fun k => x (ix2 b k)) q)) := by
  have e : sortedFrom (fun k k' : Fin 1024 => (FloatOps.cmpfTotal (F := Ideal) .gt
      (x (Shape.Idx.along (s := S64x1024) (ix2 b q) 1 k)) (x (Shape.Idx.along (s := S64x1024) (ix2 b q) 1 k')) : BitVec 1) == 1#1) q
        = top (fun k => x (ix2 b k)) q := by
    simp only [along_eq]
    exact sorted_eq x b q
  constructor
  · exact (congrArg (fun k => x (Shape.Idx.along (s := S64x1024) (ix2 b q) 1 k)) e).trans (congrArg x (along_eq b q _))
  · exact (congrArg (fun k => y (Shape.Idx.along (s := S64x1024) (ix2 b q) 1 k)) e).trans (congrArg y (along_eq b q _))

/-- A place of the top-k as a place of the whole sorted row. -/
theorem slice_index (b : Fin 64) (p : Fin 512) (a : Fin 2) :
    ((ix2 b (⟨p.val, by omega⟩ : Fin 1024) : S64x1024.Idx) a).val = 0 + ((ix2 b p : S64x512.Idx) a).val :=
  match a with
  | ⟨0, _⟩ => (Nat.zero_add _).symm
  | ⟨1, _⟩ => (Nat.zero_add _).symm

/-- Each entry's own place in its row, as a word: what the top-k sorts along with the scores. -/
def words : IVec S64x1024 32 := fun i => if hd : 1 < S64x1024.rank then iotaInDim S64x1024 32 ⟨1, hd⟩ i else 0#32

theorem words_apply (b : Fin 64) (k : Fin 1024) : words (ix2 b k) = BitVec.ofNat 32 k.val := rfl

/-- The values of the top-k are the scores at the places. -/
theorem values_apply (b : Fin 64) (p : Fin 512) :
    (Host.topK S64x512 1 (FloatOps.cmpfTotal .gt) x sliceFits_S64x1024_S64x512).1 (ix2 b p) = x (ix2 b (place x b p)) := by
  refine Eq.trans ?_ (sort_apply x words b ⟨p.val, by omega⟩).1
  exact extractStridedSlice_apply (s := S64x1024) (t := S64x512) _
    (Host.sort2 S64x1024 1 (fun l r => FloatOps.cmpfTotal (F := Ideal) .gt l.1 r.1) x words).1 sliceFits_S64x1024_S64x512 (ix2 b p) _ (slice_index b p)

/-- The indices of the top-k are the places. -/
theorem indices_apply (b : Fin 64) (p : Fin 512) :
    (Host.topK S64x512 1 (FloatOps.cmpfTotal .gt) x sliceFits_S64x1024_S64x512).2 (ix2 b p)
      = BitVec.ofNat 32 (place x b p).val := by
  refine Eq.trans ?_ ((sort_apply x words b ⟨p.val, by omega⟩).2.trans (words_apply b _))
  exact extractStridedSlice_apply (s := S64x1024) (t := S64x512) _
    (Host.sort2 S64x1024 1 (fun l r => FloatOps.cmpfTotal (F := Ideal) .gt l.1 r.1) x words).2 sliceFits_S64x1024_S64x512 (ix2 b p) _ (slice_index b p)

end TopK

/-! ## The gather -/

section Gather

theorem start_index (b : Fin 64) (p : Fin 512) (d : Fin 768) (c : Fin 1) :
    GatherDims.siIdx gather_S64x1024x768_S64x512x1_S64x512x768_2_1_0_0_1_2_11768 (ix3 b p d) c = ix3 b p 0 := by
  funext a
  match a with
  | ⟨0, _⟩ => rfl
  | ⟨1, _⟩ => rfl
  | ⟨2, _⟩ => exact Subsingleton.elim (α := Fin 1) _ _

/-- The gather reads, at place `p` of image `b`, the token that the index word names. -/
theorem gather_apply (t : FVec Ideal S64x1024x768 .f32) (w : IVec S64x512x1 32) (b : Fin 64) (p : Fin 512) (d : Fin 768)
    (k : Fin 1024) (hw : w (ix3 b p 0) = BitVec.ofNat 32 k.val) :
    Host.gather gather_S64x1024x768_S64x512x1_S64x512x768_2_1_0_0_1_2_11768 t w (ix3 b p d) = t (ix3 b k d) := by
  unfold Host.gather
  refine congrArg t (funext fun a => Fin.ext ?_)
  match a with
  | ⟨0, _⟩ =>
    show 0 + b.val + 0 = b.val
    omega
  | ⟨1, _⟩ =>
    show min (w (GatherDims.siIdx gather_S64x1024x768_S64x512x1_S64x512x768_2_1_0_0_1_2_11768 (ix3 b p d)
      (0 : Fin 1))).toInt.toNat (1024 - 1) + 0 + 0 = k.val
    rw [start_index, hw, WordArith.toInt_ofNat_small _ (by omega)]
    omega
  | ⟨2, _⟩ =>
    show 0 + 0 + d.val = d.val
    omega

end Gather

end Cert.ReferenceIdeal.Picked

end

end
-- ==== Proof.Gathered.lean ====
/-
  The reference's new tokens, read at an index: the index words of the top-k are in range, so neither the wrap of
  negative indices nor the out-of-range fill of the gather is ever taken.
-/
module

public import proofs.«01_k».proof.Proof.Picked
public import Idealize.ShloMosaic.Lib.StableHlo.Predicate

@[expose] public section

set_option maxRecDepth 16384

noncomputable section

namespace Cert.ReferenceIdeal.Gathered

open Idealize.ShloMosaic Idealize.ShloMosaic.StableHlo Idealize.SL.Sem Cert.ReferenceIdeal Cert.ReferenceIdeal.Gen Cert.ReferenceIdeal.Picked

/-- A conjunction of ones is one. -/
theorem foldl_ones {β : Type} (l : List β) (f : β → BitVec 1) (hf : ∀ i, f i = 1#1) :
    l.foldl (fun r i => IntOp.andi r (f i)) 1#1 = 1#1 := by
  induction l with
  | nil => rfl
  | cons a l ih =>
    rw [List.foldl_cons, hf]
    exact ih

/-- A place as a word is not negative. -/
theorem word_ge (k : Fin 1024) : IntOp.cmpi .sge (BitVec.ofNat 32 k.val) 0#32 = 1#1 :=
  (StableHlo.Predicate.sge_iff_toNat (by rw [BitVec.toNat_ofNat]; omega) (by decide)).mpr (Nat.zero_le _)

/-- A place as a word is at most 1023. -/
theorem word_le (k : Fin 1024) : IntOp.cmpi .sle (BitVec.ofNat 32 k.val) 1023#32 = 1#1 :=
  (StableHlo.Predicate.sle_iff_toNat (by rw [BitVec.toNat_ofNat]; omega) (by decide)).mpr (by
    rw [BitVec.toNat_ofNat]
    show k.val % 2 ^ 32 ≤ 1023
    omega)

/-- So the wrap of a negative index leaves it. -/
theorem word_wrap (k : Fin 1024) (a : BitVec 32) :
    Scalar.select (IntOp.cmpi .slt (BitVec.ofNat 32 k.val) 0#32) a (BitVec.ofNat 32 k.val) = BitVec.ofNat 32 k.val := by
  have h : IntOp.cmpi .slt (BitVec.ofNat 32 k.val) 0#32 ≠ 1#1 := fun h =>
    Nat.not_lt_zero _ ((StableHlo.Predicate.slt_iff_toNat (by rw [BitVec.toNat_ofNat]; omega) (by decide)).mp h)
  exact if_neg h

/-- The bounds check of the gather, over every index word. -/
def inBounds (w : IVec S64x512x1 32) : IVec S64x512x1 1 :=
  andi (cmpi .sge w (broadcastInDim S64x512x1 ![] bcast_S_S64x512x1 (constantI S_ 32 0#32)))
    (cmpi .sle w (broadcastInDim S64x512x1 ![0, 1, 2] bcast_S1x1x1_S64x512x1_0_1_2
      (broadcastInDim S1x1x1 ![2] bcast_S1_S1x1x1_2 (constantI S1 32 1023#32))))

variable {w : IVec S64x512x1 32} {k : Fin 64 → Fin 512 → Fin 1024} (hw : ∀ b p, w (ix3 b p 0) = BitVec.ofNat 32 (k b p).val)
include hw

theorem inBounds_apply (i : S64x512x1.Idx) : inBounds w i = 1#1 := by
  obtain ⟨b, p, z, rfl⟩ : ∃ (b : Fin 64) (p : Fin 512) (z : Fin 1), i = ix3 b p z := ⟨i 0, i 1, i 2, eq_ix3 i⟩
  obtain rfl : z = 0 := Subsingleton.elim _ _
  show IntOp.andi (IntOp.cmpi .sge (w (ix3 b p 0)) 0#32) (IntOp.cmpi .sle (w (ix3 b p 0)) 1023#32) = 1#1
  rw [hw, word_ge, word_le]
  rfl

theorem mask_apply (j : S64x512.Idx) :
    Host.reduce IntOp.andi (inBounds w) (constantI S_ 1 1#1) reducesTo_S64x512x1_S64x512_d2 h_S_ j = 1#1 := by
  rw [Host.reduce_eq_foldl]
  exact foldl_ones _ _ (inBounds_apply hw)

omit hw in
/-- A select whose mask is one there reads its first operand. -/
theorem select_one {s : Shape} {α : Type} (m : IVec s 1) (x y : s.Idx → α) (j : s.Idx) (h : m j = 1#1) :
    select m x y j = x j := if_pos h

omit hw in
/-- A broadcast of ones is one everywhere. -/
theorem bcast_ones (m : IVec S64x512 1) (hm : ∀ i, m i = 1#1) (j : S64x512x768.Idx) :
    broadcastInDim S64x512x768 ![0, 1] bcast_S64x512_S64x512x768_0_1 m j = 1#1 := hm _

/-- The gather with its bounds check reads, at place `p` of image `b`, the token named there. -/
theorem filled_apply (t : FVec Ideal S64x1024x768 .f32) (fill : FVec Ideal S64x512x768 .f32)
    (b : Fin 64) (p : Fin 512) (d : Fin 768) :
    select (broadcastInDim S64x512x768 ![0, 1] bcast_S64x512_S64x512x768_0_1
        (Host.reduce IntOp.andi (inBounds w) (constantI S_ 1 1#1) reducesTo_S64x512x1_S64x512_d2 h_S_))
      (Host.gather gather_S64x1024x768_S64x512x1_S64x512x768_2_1_0_0_1_2_11768 t w) fill (ix3 b p d)
      = t (ix3 b (k b p) d) := by
  exact (select_one _ _ fill (ix3 b p d) (bcast_ones _ (mask_apply hw) _)).trans (gather_apply t w b p d (k b p) (hw b p))

omit hw

/-- A column of words, read in one. -/
theorem column_apply (y : IVec S64x512 32) (b : Fin 64) (p : Fin 512) :
    broadcastInDim S64x512x1 ![0, 1] bcast_S64x512_S64x512x1_0_1 y (ix3 b p 0) = y (ix2 b p) := by
  unfold broadcastInDim
  refine congrArg y (funext fun a => ?_)
  match a with
  | ⟨0, _⟩ => rfl
  | ⟨1, _⟩ => rfl

/-- The wrap of negative words, where the word is a place. -/
theorem wrap_apply (z a : IVec S64x512x1 32) (b : Fin 64) (p : Fin 512) (q : Fin 1024)
    (hz : z (ix3 b p 0) = BitVec.ofNat 32 q.val) :
    select (cmpi .slt z (broadcastInDim S64x512x1 ![] bcast_S_S64x512x1 (constantI S_ 32 0#32))) a z (ix3 b p 0)
      = BitVec.ofNat 32 q.val := by
  show Scalar.select (IntOp.cmpi .slt (z (ix3 b p 0)) 0#32) (a (ix3 b p 0)) (z (ix3 b p 0)) = _
  rw [hz]
  exact word_wrap _ _

/-- Row 0 of the joined array is the first piece. -/
theorem joined_first (x : FVec Ideal S64x1x768 .f32) (y : FVec Ideal S64x512x768 .f32) (b : Fin 64) (d : Fin 768) :
    concatenate S64x513x768 1 [⟨S64x1x768, x⟩, ⟨S64x512x768, y⟩] concatenates_S64x1x768_S64x512x768_S64x513x768_d1 (ix3 b 0 d)
      = x (ix3 b 0 d) :=
  concatenate_pair_apply_left (s₁ := S64x1x768) (s₂ := S64x512x768) (t := S64x513x768) 1 x y _ (ix3 b 0 d) rfl (ix3 b 0 d) fun
    | ⟨0, _⟩ => rfl
    | ⟨1, _⟩ => rfl
    | ⟨2, _⟩ => rfl

/-- Row `p + 1` of the joined array is row `p` of the second piece. -/
theorem joined_next (x : FVec Ideal S64x1x768 .f32) (y : FVec Ideal S64x512x768 .f32) (b : Fin 64) (p : Fin 512) (d : Fin 768) :
    concatenate S64x513x768 1 [⟨S64x1x768, x⟩, ⟨S64x512x768, y⟩] concatenates_S64x1x768_S64x512x768_S64x513x768_d1
        (ix3 b ⟨p.val + 1, by omega⟩ d)
      = y (ix3 b p d) :=
  concatenate_pair_apply_right (s₁ := S64x1x768) (s₂ := S64x512x768) (t := S64x513x768) 1 x y _
    (ix3 b ⟨p.val + 1, by omega⟩ d) rfl rfl (ix3 b p d)
    (fun
      | ⟨0, _⟩ => fun _ => rfl
      | ⟨1, _⟩ => fun h => absurd rfl h
      | ⟨2, _⟩ => fun _ => rfl) rfl

open Cert.ReferenceIdeal.Value

variable (V : Valuation τ sig (Elt Ideal))

/-- The reference's scores of the tokens. -/
abbrev scores : FVec Ideal S64x1024 .f32 := res_main_v65 V

/-- The index words of the gather are the places of the top-k. -/
theorem word_apply (b : Fin 64) (p : Fin 512) :
    (res_main_call1_v4 V : IVec S64x512x1 32) (ix3 b p 0) = BitVec.ofNat 32 (place (scores V) b p).val := by
  unfold res_main_call1_v4
  refine wrap_apply _ _ b p _ ?_
  unfold res_main_v66
  exact (column_apply _ b p).trans (indices_apply (scores V) b p)

end Cert.ReferenceIdeal.Gathered

end

end
-- ==== Proof.Equal.lean ====
/-
  The equation: on the same arguments, what the kernel's region leaves is what the reference computes.
-/
module

public import proofs.«01_k».proof.Proof.Arrays
public import proofs.«01_k».proof.Proof.Entry
public import proofs.«01_k».proof.Proof.Gathered

@[expose] public section

set_option maxRecDepth 16384

noncomputable section

namespace Cert.Equal

open Idealize.ShloMosaic Idealize.ShloMosaic.StableHlo Idealize.SL.Sem Cert.KernelIdeal Cert.KernelIdeal.Gen Cert.KernelIdeal.Arrays
open Cert.KernelIdeal.Block (best)
open Cert.ReferenceIdeal.Picked (place)
open Cert.ReferenceIdeal.Value (res_main_v0 res_main_v65)

/-! ## The reshapes between one image to a row and one image to a block -/

section Reshape

variable {α : Type}

theorem rows_apply (x : S64x1x512.Idx → α) (b : Fin 64) (p : Fin 512) :
    shapeCast S64x512 x Facts₀.shapeCasts_S64x1x512_S64x512 (ix2 b p) = x (ix3 b 0 p) := by
  pointwise

theorem blocks_apply (x : S64x1024.Idx → α) (b : Fin 64) (k : Fin 1024) :
    shapeCast S64x1x1024 x Facts₀.shapeCasts_S64x1024_S64x1x1024 (ix3 b 0 k) = x (ix2 b k) := by
  pointwise

theorem blocks_rows (x : S64x1024.Idx → α) :
    shapeCast S64x1024 (shapeCast S64x1x1024 x Facts₀.shapeCasts_S64x1024_S64x1x1024) Facts₀.shapeCasts_S64x1x1024_S64x1024 = x := by
  funext j
  obtain ⟨b, k, rfl⟩ : ∃ (b : Fin 64) (k : Fin 1024), j = ix2 b k := ⟨j 0, j 1, eq_ix2 j⟩
  have e : ∀ y : S64x1x1024.Idx → α,
      shapeCast S64x1024 y Facts₀.shapeCasts_S64x1x1024_S64x1024 (ix2 b k) = y (ix3 b 0 k) := fun y => by pointwise
  rw [e, blocks_apply]

end Reshape

variable (m : (ℓ : Loc nD τ sig) → Buf (Elt Ideal) ℓ) (c : Dev nD) {V' : Entry.RVal}
  (h : Entry.Same (fun b => m (c, b)) V')

/-- The reference's scores. -/
abbrev refScores (V' : Entry.RVal) : FVec Ideal S64x1024 .f32 := res_main_v65 V'

include h

/-- The scores the region reads are the reference's. -/
theorem scores_eq : scores m c = shapeCast S64x1x1024 (refScores V') Facts₀.shapeCasts_S64x1024_S64x1x1024 :=
  Entry.scores_eq h

/-- The scores, one image to a row again, are the reference's. -/
theorem rows_eq : shapeCast S64x1024 (scores m c) Facts₀.shapeCasts_S64x1x1024_S64x1024 = refScores V' := by
  rw [scores_eq m c h, blocks_rows]

theorem row_eq (b : Fin 64) : row m c b = fun k => refScores V' (ix2 b k) := by
  funext k
  unfold row
  rw [scores_eq m c h, blocks_apply]

theorem best_eq (b : Fin 64) (p : Fin 512) : best (row m c b) p = place (refScores V') b p := by
  rw [row_eq m c h]
  rfl

/-- The tokens the region reads are the reference's. -/
theorem tokens_eq : tokens m c = (res_main_v0 V' : FVec Ideal S64x1024x768 .f32) := by
  refine Entry.tokens_eq.trans ?_
  rw [h.a3]
  rfl

/-- The class tokens the region reads are the reference's. -/
theorem classes_eq : classes m c = extractStridedSlice S64x1x768 ![0, 0, 0]
    (V' (Proc.devRef .tc Cert.ReferenceIdeal.main_arg3) : FVec Ideal S64x1025x768 .f32) Facts₀.slices_S64x1025x768_S64x1x768_0_0_0 := by
  refine Entry.classes_eq.trans ?_
  rw [h.a3]

/-- The positions are the indices of the reference's top-k. -/
theorem positions_eq : shapeCast S64x512 (positions m c) Facts₀.shapeCasts_S64x1x512_S64x512
    = (Host.topK Cert.ReferenceIdeal.S64x512 1 (FloatOps.cmpfTotal .gt) (refScores V') Cert.ReferenceIdeal.Gen.sliceFits_S64x1024_S64x512).2 := by
  funext j
  obtain ⟨b, p, rfl⟩ : ∃ (b : Fin 64) (p : Fin 512), j = ix2 b p := ⟨j 0, j 1, eq_ix2 j⟩
  refine (rows_apply _ b p).trans (Eq.trans ?_ (Cert.ReferenceIdeal.Picked.indices_apply (refScores V') b p).symm)
  exact congrArg (fun k : Fin 1024 => BitVec.ofNat 32 k.val) (best_eq m c h b p)

/-- The scores of the best are the values of the reference's top-k. -/
theorem values_eq : shapeCast S64x512 (values m c) Facts₀.shapeCasts_S64x1x512_S64x512
    = (Host.topK Cert.ReferenceIdeal.S64x512 1 (FloatOps.cmpfTotal .gt) (refScores V') Cert.ReferenceIdeal.Gen.sliceFits_S64x1024_S64x512).1 := by
  funext j
  obtain ⟨b, p, rfl⟩ : ∃ (b : Fin 64) (p : Fin 512), j = ix2 b p := ⟨j 0, j 1, eq_ix2 j⟩
  refine (rows_apply _ b p).trans (Eq.trans ?_ (Cert.ReferenceIdeal.Picked.values_apply (refScores V') b p).symm)
  show row m c b (best (row m c b) p) = _
  rw [best_eq m c h, row_eq m c h]

open Cert.ReferenceIdeal.Gathered in
/-- The new tokens are the reference's: its class token joined to its gather, whatever fills a place out of bounds. -/
theorem newTokens_eq (fill : FVec Ideal Cert.ReferenceIdeal.S64x512x768 .f32) : Arrays.newTokens m c
    = concatenate Cert.ReferenceIdeal.S64x513x768 1
      [⟨Cert.ReferenceIdeal.S64x1x768, extractStridedSlice Cert.ReferenceIdeal.S64x1x768 ![0, 0, 0]
        (V' (Proc.devRef .tc Cert.ReferenceIdeal.main_arg3)) Cert.ReferenceIdeal.Gen.slices_S64x1025x768_S64x1x768_0_0_0⟩,
       ⟨Cert.ReferenceIdeal.S64x512x768, select (broadcastInDim Cert.ReferenceIdeal.S64x512x768 ![0, 1] Cert.ReferenceIdeal.Gen.bcast_S64x512_S64x512x768_0_1
          (Host.reduce IntOp.andi (inBounds (Cert.ReferenceIdeal.Value.res_main_call1_v4 V')) (constantI Cert.ReferenceIdeal.S_ 1 1#1)
            Cert.ReferenceIdeal.Gen.reducesTo_S64x512x1_S64x512_d2 Cert.ReferenceIdeal.Gen.h_S_))
        (Host.gather Cert.ReferenceIdeal.gather_S64x1024x768_S64x512x1_S64x512x768_2_1_0_0_1_2_11768 (res_main_v0 V')
          (Cert.ReferenceIdeal.Value.res_main_call1_v4 V')) fill⟩]
      Cert.ReferenceIdeal.Gen.concatenates_S64x1x768_S64x512x768_S64x513x768_d1 := by
  funext j
  obtain ⟨b, r, d, rfl⟩ : ∃ (b : Fin 64) (r : Fin 513) (d : Fin 768), j = ix3 b r d := ⟨j 0, j 1, j 2, eq_ix3 j⟩
  rcases row_cases r with rfl | ⟨p, rfl⟩
  · refine (newTokens_first m c b d).trans (Eq.trans ?_ (joined_first _ _ b d).symm)
    exact congrFun (classes_eq m c h) _
  · refine (newTokens_next m c b p d).trans (Eq.trans ?_ (joined_next _ _ b p d).symm)
    refine Eq.trans ?_ (filled_apply (word_apply V') (res_main_v0 V') fill b p d).symm
    rw [tokens_eq m c h, best_eq m c h]

end Cert.Equal

end

end
-- ==== Proof.Results.lean ====
/-
  What the kernel's five result buffers hold when it ends: the region's three arrays, two of them and the scores
  reshaped by the lines after the region, and the constant mask.
-/
module

public import proofs.«01_k».proof.Proof.Arrays

@[expose] public section

set_option maxRecDepth 16384

noncomputable section

namespace Cert.KernelIdeal.Results

open Idealize.ShloMosaic Idealize.ShloMosaic.StableHlo Idealize.SL.Sem Cert.KernelIdeal Cert.KernelIdeal.Gen Cert.KernelIdeal.Arrays

variable (m : (ℓ : Loc nD τ sig) → Buf (Elt Ideal) ℓ) (c : Dev nD)

/-- The buffers after the region, before the lines that follow it. -/
abbrev exit : Valuation τ sig (Elt Ideal) := Pipeline.withArrays spec0 c (V0 m c) fun w => (dats m 0 c).arrAt w cfg0.N

theorem exit_scores : exit m c (Proc.devRef .tc main_v66) = scores m c :=
  (Pipeline.withArrays_arr spec0 launch0.win.arr_inj c (V0 m c) _ 0).trans (((dats m 0 c).arrAt_in 0 rfl _).trans (A_eq m c 0))

theorem exit_positions : exit m c (Proc.devRef .tc main_v67_1) = positions m c :=
  (Pipeline.withArrays_arr spec0 launch0.win.arr_inj c (V0 m c) _ 4).trans (final4 m c)

theorem exit_values : exit m c (Proc.devRef .tc main_v67_2) = values m c :=
  (Pipeline.withArrays_arr spec0 launch0.win.arr_inj c (V0 m c) _ 5).trans (final5 m c)

/-- The second result: ones. -/
theorem tail68 : Pipeline.afterTail₀ cfgs (dats m) 0 (V0 m) [hostOps1] c main_v68
    = broadcastInDim S64x513 ![] bcast_S_S64x513 (constantI S_ 32 1#32) := by
  show after (List.flatten [hostOps1 (F := Ideal)]) (exit m c) _ = _
  simp only [List.flatten_cons, List.flatten_nil, List.append_nil, hostOps1]
  after_results_simp
  all_goals rfl

/-- The third result: the positions, one image to a row. -/
theorem tail69 : Pipeline.afterTail₀ cfgs (dats m) 0 (V0 m) [hostOps1] c main_v69
    = shapeCast S64x512 (positions m c) shapeCasts_S64x1x512_S64x512 := by
  rw [← exit_positions]
  show after (List.flatten [hostOps1 (F := Ideal)]) (exit m c) _ = _
  generalize exit m c = W
  simp only [List.flatten_cons, List.flatten_nil, List.append_nil, hostOps1]
  after_results_simp
  all_goals rfl

/-- The fourth result: the scores, one image to a row. -/
theorem tail70 : Pipeline.afterTail₀ cfgs (dats m) 0 (V0 m) [hostOps1] c main_v70
    = shapeCast S64x1024 (scores m c) shapeCasts_S64x1x1024_S64x1024 := by
  rw [← exit_scores]
  show after (List.flatten [hostOps1 (F := Ideal)]) (exit m c) _ = _
  generalize exit m c = W
  simp only [List.flatten_cons, List.flatten_nil, List.append_nil, hostOps1]
  after_results_simp
  all_goals rfl

/-- The fifth result: the scores of the best, one image to a row. -/
theorem tail71 : Pipeline.afterTail₀ cfgs (dats m) 0 (V0 m) [hostOps1] c main_v71
    = shapeCast S64x512 (values m c) shapeCasts_S64x1x512_S64x512 := by
  rw [← exit_values]
  show after (List.flatten [hostOps1 (F := Ideal)]) (exit m c) _ = _
  generalize exit m c = W
  simp only [List.flatten_cons, List.flatten_nil, List.append_nil, hostOps1]
  after_results_simp
  all_goals rfl

/-- The kernel's run ends with these five results, if no token holds plus infinity. -/
theorem run (hf : ∀ c, Bounded m c) (ρ : Dev nD → PrngReg) :
    θ_run defs (onTc (τ := τ) (main (F := Ideal))) ⟨m, fun _ => 0, ρ⟩ fun r => ∀ c : Dev nD,
      r.2.mem ((c.tc : Thread nD τ).loc main_v67_0) = newTokens m c
      ∧ r.2.mem ((c.tc : Thread nD τ).loc main_v68) = broadcastInDim S64x513 ![] bcast_S_S64x513 (constantI S_ 32 1#32)
      ∧ r.2.mem ((c.tc : Thread nD τ).loc main_v69) = shapeCast S64x512 (positions m c) shapeCasts_S64x1x512_S64x512
      ∧ r.2.mem ((c.tc : Thread nD τ).loc main_v70) = shapeCast S64x1024 (scores m c) shapeCasts_S64x1x1024_S64x1024
      ∧ r.2.mem ((c.tc : Thread nD τ).loc main_v71) = shapeCast S64x512 (values m c) shapeCasts_S64x1x512_S64x512 :=
  (θ_run defs _ _).mono (fun _ h c => ⟨((h c).1 3).trans (final3 m c (hf c)),
    ((h c).2 main_v68 (Pipeline.mem_restRefs_of main_v68 (by decide) (by decide))).trans (tail68 m c),
    ((h c).2 main_v69 (Pipeline.mem_restRefs_of main_v69 (by decide) (by decide))).trans (tail69 m c),
    ((h c).2 main_v70 (Pipeline.mem_restRefs_of main_v70 (by decide) (by decide))).trans (tail70 m c),
    ((h c).2 main_v71 (Pipeline.mem_restRefs_of main_v71 (by decide) (by decide))).trans (tail71 m c)⟩) (run_main m ρ)

end Cert.KernelIdeal.Results

end

end
-- ==== Proof.Bounded.lean ====
/-
  What the precondition says of one token entry.
-/
module

public import proofs.«01_k».proof.Defs
public import Idealize.ShloMosaic.Lib.Pointwise

@[expose] public section

noncomputable section

namespace Cert.Bounded

open Idealize.ShloMosaic Cert.Pre_bounded_tokens

/-- A value below plus infinity is not plus infinity. -/
theorem ne_of_lt (x : EReal)
    (h : FloatOps.cmpf (F := Ideal) (φ := .f32) .olt x (FloatOps.ofBits (F := Ideal) .f32 0x7F800000#32) = 1#1) :
    x ≠ ⊤ := by
  have htop : Ideal.ofBits .f32 0x7F800000#32 = ⊤ := by simp [Ideal.ofBits, Ideal.ieee]
  change Ideal.cmp .olt x (Ideal.ofBits .f32 0x7F800000#32) = 1#1 at h
  rw [htop] at h
  rintro rfl
  simp [Ideal.cmp] at h

end Cert.Bounded

end

end
-- ==== Proof.lean ====
/-
  The claim, assembled: the frames of the three programs, and the equation of the idealized kernel's five results with
  the reference's where no element of an image token is plus infinity.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_bounded_tokens
public import Idealize.ShloMosaic.Adequacy
public import Idealize.ShloMosaic.Init
public import proofs.«01_k».proof.Proof.Gen.ReferenceIdeal.Run
public import proofs.«01_k».proof.Proof.Equal
public import proofs.«01_k».proof.Proof.Results
public import proofs.«01_k».proof.Proof.Bounded

@[expose] public section

noncomputable section

namespace Cert.Proof

open Idealize.ShloMosaic Idealize.SL.Sem Cert.Kernel

/-- The idealized kernel terminates, leaves its arguments as they were and every semaphore at zero. -/
theorem kernel_frame : Cert.quiescent_KernelIdeal (hKernelIdeal := Cert.KernelIdeal.Gen.facts) :=
  fun m ρ _ => Cert.KernelIdeal.Gen.frame m ρ

/-- The reference terminates, leaves its arguments as they were and every semaphore at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2.2.2, sem_eq_zero_of_no_sems (by decide) r.2⟩)
    (Cert.ReferenceIdeal.Value.run m ρ)

/-- The precondition says that no element of the tokens the region reads is plus infinity. -/
theorem bounded_of_pre (m : (ℓ : Loc Cert.KernelIdeal.nD Cert.KernelIdeal.τ Cert.KernelIdeal.sig) → Buf (Elt Ideal) ℓ)
    (h : Cert.Pre_KernelIdeal_bounded_tokens (hPre_bounded_tokens := Cert.Pre_bounded_tokens.Gen.facts) m)
    (c : Dev Cert.KernelIdeal.nD) : Cert.KernelIdeal.Arrays.Bounded m c := fun j => by
  have e : Cert.KernelIdeal.Arrays.tokens m c = _ := Cert.Entry.tokens_eq
  rw [e]
  exact Cert.Bounded.ne_of_lt _ (congrFun (h c) j)

/-- Where no element of an image token is plus infinity, the idealized kernel's five results are the reference's. -/
theorem results_equal : Cert.algebraic_KernelIdeal_ReferenceIdeal_pre_bounded_tokens (hKernelIdeal := Cert.KernelIdeal.Gen.facts)
    (hReferenceIdeal := Cert.ReferenceIdeal.Gen.facts) (hPre_bounded_tokens := Cert.Pre_bounded_tokens.Gen.facts) := by
  intro m g m' g' hpre hagree
  have same : ∀ c : Dev Cert.KernelIdeal.nD, Cert.Entry.Same (fun b => m (c, b)) (StableHlo.launchContents m' c) := fun c => by
    obtain ⟨_, _, _, a3, _, _, _, a7, a8, a9, a10, a11, a12, a13, a14, a15, a16⟩ := hagree c
    exact ⟨a3.symm, a7.symm, a8.symm, a9.symm, a10.symm, a11.symm, a12.symm, a13.symm, a14.symm, a15.symm, a16.symm⟩
  refine ⟨fun c => Cert.KernelIdeal.Arrays.newTokens m c, fun c => _, fun c => _, fun c => _, fun c => _,
    (θ_run Cert.KernelIdeal.defs _ _).mono (fun r h c => ⟨(h.1 c).1, (h.1 c).2.1, (h.1 c).2.2.1, (h.1 c).2.2.2.1, (h.1 c).2.2.2.2, h.2 c⟩)
      (θ_run_and (Cert.KernelIdeal.Results.run m (bounded_of_pre m hpre) g) (Cert.KernelIdeal.Gen.unchanged m g)),
    (θ_run Cert.ReferenceIdeal.defs _ _).mono (fun r h c => ⟨(h c).1.trans (Cert.Equal.newTokens_eq m c (same c) _).symm, (h c).2.1,
      (h c).2.2.1.trans (Cert.Equal.positions_eq m c (same c)).symm, (h c).2.2.2.1.trans ?_,
      (h c).2.2.2.2.1.trans (Cert.Equal.values_eq m c (same c)).symm, (h c).2.2.2.2.2⟩) (Cert.ReferenceIdeal.Value.run m' g')⟩
  exact (Cert.Equal.rows_eq m c (same c)).symm

theorem claim : Cert.Claim := ⟨Cert.Kernel.Gen.facts, Cert.KernelIdeal.Gen.facts, Cert.ReferenceIdeal.Gen.facts,
  Cert.Pre_bounded_tokens.Gen.facts, fun m ρ _ => Cert.Kernel.Gen.frame m ρ, kernel_frame,
  fun m ρ _ => kernel_frame m ρ trivial, reference_frame, fun m ρ _ => reference_frame m ρ trivial, trivial, results_equal⟩

end Cert.Proof

end
